-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512x1024 : Shape := ⟨3, ![64, 512, 1024]⟩
abbrev S2048x1024 : Shape := ⟨2, ![2048, 1024]⟩
abbrev S2048 : Shape := ⟨1, ![2048]⟩
abbrev S2048x2048 : Shape := ⟨2, ![2048, 2048]⟩
abbrev S1024x2048 : Shape := ⟨2, ![1024, 2048]⟩
abbrev S1024 : Shape := ⟨1, ![1024]⟩
abbrev S1x2048 : Shape := ⟨2, ![1, 2048]⟩
abbrev S1x1024 : Shape := ⟨2, ![1, 1024]⟩
abbrev S512x64x2048 : Shape := ⟨3, ![512, 64, 2048]⟩
abbrev S64x1024 : Shape := ⟨2, ![64, 1024]⟩
abbrev S8x128x1024 : Shape := ⟨3, ![8, 128, 1024]⟩
abbrev S128x8x2048 : Shape := ⟨3, ![128, 8, 2048]⟩
abbrev S128x8x1024 : Shape := ⟨3, ![128, 8, 1024]⟩
abbrev S1024x1024 : Shape := ⟨2, ![1024, 1024]⟩
abbrev S16x64x2048 : Shape := ⟨3, ![16, 64, 2048]⟩
abbrev S64x2048 : Shape := ⟨2, ![64, 2048]⟩
abbrev S1x64x2048 : Shape := ⟨3, ![1, 64, 2048]⟩

abbrev nBuf : Space → Nat
  | .hbm => 15
  | .vmem => 13
  | .smem => 0
  | _ => 0

abbrev bufTy : (tb : Table) → Fin (tcTables nBuf tb) → BufTy
  | .hbm, ⟨0, _⟩ => ⟨S64x512x1024, .f32⟩
  | .hbm, ⟨1, _⟩ => ⟨S2048x1024, .f32⟩
  | .hbm, ⟨2, _⟩ => ⟨S2048, .f32⟩
  | .hbm, ⟨3, _⟩ => ⟨S2048x2048, .f32⟩
  | .hbm, ⟨4, _⟩ => ⟨S1024x2048, .f32⟩
  | .hbm, ⟨5, _⟩ => ⟨S1024, .f32⟩
  | .hbm, ⟨6, _⟩ => ⟨S2048x1024, .bf16⟩
  | .hbm, ⟨7, _⟩ => ⟨S2048x2048, .f32⟩
  | .hbm, ⟨8, _⟩ => ⟨S2048x2048, .bf16⟩
  | .hbm, ⟨9, _⟩ => ⟨S2048x1024, .f32⟩
  | .hbm, ⟨10, _⟩ => ⟨S2048x1024, .bf16⟩
  | .hbm, ⟨11, _⟩ => ⟨S1x2048, .f32⟩
  | .hbm, ⟨12, _⟩ => ⟨S1x1024, .f32⟩
  | .hbm, ⟨13, _⟩ => ⟨S512x64x2048, .bf16⟩
  | .hbm, ⟨14, _⟩ => ⟨S64x1024, .f32⟩
  | .local _ .vmem, ⟨0, _⟩ => ⟨S8x128x1024, .f32⟩
  | .local _ .vmem, ⟨1, _⟩ => ⟨S8x128x1024, .f32⟩
  | .local _ .vmem, ⟨2, _⟩ => ⟨S2048x1024, .bf16⟩
  | .local _ .vmem, ⟨3, _⟩ => ⟨S1x2048, .f32⟩
  | .local _ .vmem, ⟨4, _⟩ => ⟨S128x8x2048, .bf16⟩
  | .local _ .vmem, ⟨5, _⟩ => ⟨S128x8x2048, .bf16⟩
  | .local _ .vmem, ⟨6, _⟩ => ⟨S16x64x2048, .bf16⟩
  | .local _ .vmem, ⟨7, _⟩ => ⟨S16x64x2048, .bf16⟩
  | .local _ .vmem, ⟨8, _⟩ => ⟨S2048x2048, .bf16⟩
  | .local _ .vmem, ⟨9, _⟩ => ⟨S2048x1024, .bf16⟩
  | .local _ .vmem, ⟨10, _⟩ => ⟨S1x1024, .f32⟩
  | .local _ .vmem, ⟨11, _⟩ => ⟨S64x1024, .f32⟩
  | .local _ .vmem, ⟨12, _⟩ => ⟨S64x2048, .f32⟩
  | _, _ => ⟨S64x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x8x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![32], ![false]⟩

def k1_cond2 (i : grid1.Coords) : BitVec 1 :=
  let arg0 : BitVec 32 := BitVec.ofNat 32 (i 0).val
  let c31_i32 : BitVec 32 := 31#32
  let v167 : BitVec 1 := Scalar.cmpi .eq arg0 c31_i32
  let v168 : BitVec 32 := Scalar.extui v167
  let c0_i32_100 : BitVec 32 := 0#32
  let v169 : BitVec 1 := Scalar.cmpi .ne v168 c0_i32_100
  v169

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S16x64x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]
-- ==== ReferenceIdeal.lean ====
abbrev S64x512x1024 : Shape := ⟨3, ![64, 512, 1024]⟩
abbrev S2048x1024 : Shape := ⟨2, ![2048, 1024]⟩
abbrev S2048 : Shape := ⟨1, ![2048]⟩
abbrev S2048x2048 : Shape := ⟨2, ![2048, 2048]⟩
abbrev S1024x2048 : Shape := ⟨2, ![1024, 2048]⟩
abbrev S1024 : Shape := ⟨1, ![1024]⟩
abbrev S64x512x2048 : Shape := ⟨3, ![64, 512, 2048]⟩
abbrev S1x1x2048 : Shape := ⟨3, ![1, 1, 2048]⟩
abbrev S_ : Shape := ⟨0, ![]⟩
abbrev S64x2048 : Shape := ⟨2, ![64, 2048]⟩
abbrev S512x64x2048 : Shape := ⟨3, ![512, 64, 2048]⟩
abbrev S1x64x2048 : Shape := ⟨3, ![1, 64, 2048]⟩
abbrev S64x1024 : Shape := ⟨2, ![64, 1024]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S64x512x1024, .f32⟩
  | .hbm, ⟨1, _⟩ => ⟨S2048x1024, .f32⟩
  | .hbm, ⟨2, _⟩ => ⟨S2048, .f32⟩
  | .hbm, ⟨3, _⟩ => ⟨S2048x2048, .f32⟩
  | .hbm, ⟨4, _⟩ => ⟨S1024x2048, .f32⟩
  | .hbm, ⟨5, _⟩ => ⟨S1024, .f32⟩
  | .hbm, ⟨6, _⟩ => ⟨S64x512x2048, .f32⟩
  | .hbm, ⟨7, _⟩ => ⟨S1x1x2048, .f32⟩
  | .hbm, ⟨8, _⟩ => ⟨S64x512x2048, .f32⟩
  | .hbm, ⟨9, _⟩ => ⟨S64x512x2048, .f32⟩
  | .hbm, ⟨10, _⟩ => ⟨S_, .f32⟩
  | .hbm, ⟨11, _⟩ => ⟨S64x2048, .f32⟩
  | .hbm, ⟨12, _⟩ => ⟨S512x64x2048, .f32⟩
  | .hbm, ⟨13, _⟩ => ⟨S_, .i32⟩
  | .hbm, ⟨14, _⟩ => ⟨S512x64x2048, .f32⟩
  | .hbm, ⟨15, _⟩ => ⟨S2048x2048, .f32⟩
  | .hbm, ⟨16, _⟩ => ⟨S_, .i32⟩
  | .hbm, ⟨17, _⟩ => ⟨S64x2048, .f32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S1x64x2048, .f32⟩
  | .hbm, ⟨23, _⟩ => ⟨S64x2048, .f32⟩
  | .hbm, ⟨24, _⟩ => ⟨S2048x2048, .f32⟩
  | .hbm, ⟨25, _⟩ => ⟨S64x2048, .f32⟩
  | .hbm, ⟨26, _⟩ => ⟨S64x2048, .f32⟩
  | .hbm, ⟨27, _⟩ => ⟨S_, .f32⟩
  | .hbm, ⟨28, _⟩ => ⟨S64x2048, .f32⟩
  | .hbm, ⟨29, _⟩ => ⟨S64x2048, .f32⟩
  | .hbm, ⟨30, _⟩ => ⟨S_, .i32⟩
  | .hbm, ⟨31, _⟩ => ⟨S_, .i32⟩
  | .hbm, ⟨32, _⟩ => ⟨S2048x1024, .f32⟩
  | .hbm, ⟨33, _⟩ => ⟨S64x1024, .f32⟩
  | .hbm, ⟨34, _⟩ => ⟨S1x1024, .f32⟩
  | .hbm, ⟨35, _⟩ => ⟨S64x1024, .f32⟩
  | .hbm, ⟨36, _⟩ => ⟨S64x1024, .f32⟩
  | _, _ => ⟨S64x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_while0c_c_3 : Ref sig .tc := ⟨.hbm, 18, rfl⟩
abbrev main_while0c_v12 : Ref sig .tc := ⟨.hbm, 19, rfl⟩
abbrev main_while0b_call0_c : Ref sig .tc := ⟨.hbm, 20, rfl⟩
abbrev main_while0b_call0_c_0 : Ref sig .tc := ⟨.hbm, 21, rfl⟩
abbrev main_while0b_call0_v0 : Ref sig .tc := ⟨.hbm, 22, rfl⟩
abbrev main_while0b_v12 : Ref sig .tc := ⟨.hbm, 23, rfl⟩
abbrev main_while0b_v13 : Ref sig .tc := ⟨.hbm, 24, rfl⟩
abbrev main_while0b_v14 : Ref sig .tc := ⟨.hbm, 25, rfl⟩
abbrev main_while0b_v15 : Ref sig .tc := ⟨.hbm, 26, rfl⟩
abbrev main_while0b_call1_cst : Ref sig .tc := ⟨.hbm, 27, rfl⟩
abbrev main_while0b_call1_v0 : Ref sig .tc := ⟨.hbm, 28, rfl⟩
abbrev main_while0b_v16 : Ref sig .tc := ⟨.hbm, 29, rfl⟩
abbrev main_while0b_c_3 : Ref sig .tc := ⟨.hbm, 30, rfl⟩
abbrev main_while0b_v17 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩

abbrev nD : Nat := 1
abbrev τ : Topo := Topo.v7x

variable {F : FTy → Type} [FloatOps F]

abbrev main_while0_count : Scf.Loop 32 := ⟨0#32, 512#32, 1#32⟩
-- ==== Proof.X2hRegion.lean ====
/- THE FIRST LAUNCH: the input projection.

   The launch walks 32 grid points. At each point the body takes one block of the input `x`
   (8 batch rows, 128 time steps), the projection's weights and its bias, and leaves one block of the
   projected sequence. Here: what one body leaves, that the body does leave it, and the launch's proof
   data. Everything is stated at any float interpretation `F` and at the contents `V` the launch finds. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.VecWindow
public import Idealize.ShloMosaic.Lib.Ring
public import Idealize.ShloMosaic.Lib.Tactic

@[expose] public section

set_option maxRecDepth 16384

noncomputable section

namespace Cert.Proof.X2h

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-- The block of the projected sequence the body computes from a block of `x`, the weights and the bias. -/
def xhBlock (x : Vec F S8x128x1024 .f32) (W : Vec F S2048x1024 .bf16) (b : Vec F S1x2048 .f32) : Vec F S128x8x2048 .bf16 :=
  k0_pay1 x W b

set_option maxHeartbeats 1000000 in
/-- One body: it reads the three input buffers, leaves them alone, and fills the output buffer with
    `xhBlock` of what it read, whatever the output buffer held. -/
theorem body_run (c : Dev nD) (E : Set ℕ) (i : grid0.Coords)
    (ax : Memref sig .tc .vmem S8x128x1024 .f32) (hx : ax.IsWhole) (aW : Memref sig .tc .vmem S2048x1024 .bf16) (hW : aW.IsWhole)
    (ab : Memref sig .tc .vmem S1x2048 .f32) (hb : ab.IsWhole) (ao : Memref sig .tc .vmem S128x8x2048 .bf16) (ho : ao.IsWhole)
    (x : Vec F S8x128x1024 .f32) (W : Vec F S2048x1024 .bf16) (b : Vec F S1x2048 .f32) (K : PUnit → sProp 𝕄) :
    iprop(owns (c : Thread nD τ) ax fullShare x ∗ owns (c : Thread nD τ) aW fullShare W ∗ owns (c : Thread nD τ) ab fullShare b
        ∗ (∃ d, owns (c : Thread nD τ) ao fullShare d)
        ∗ (iprop(owns (c : Thread nD τ) ax fullShare x ∗ owns (c : Thread nD τ) aW fullShare W ∗ owns (c : Thread nD τ) ab fullShare b
            ∗ owns (c : Thread nD τ) ao fullShare (xhBlock x W b)) -∗ K ⟨⟩))
      ⊢ wp frame (wpE (defs₀ (F := F)) Variants.none c none) E (cc0__x2h_kernel i ax hx aW hW ab hb ao ho) K := by
  simp only [cc0__x2h_kernel_eq_skeleton]; unfold cc0__x2h_kernel_skel
  unfold owns
  iintro ⟨⟨%fx, %ex, Hx⟩, ⟨%fW, %eW, HW⟩, ⟨%fb, %eb, Hb⟩, ⟨%d, %fo, -, Ho⟩, Hk⟩
  subst ex eW eb
  sl_exec
  sl_step
  iapply Hk
  isplitl [Hx]
  · iexists fx; isplitr; · ipureintro; rfl
    iexact Hx
  isplitl [HW]
  · iexists fW; isplitr; · ipureintro; rfl
    iexact HW
  isplitl [Hb]
  · iexists fb; isplitr; · ipureintro; rfl
    iexact Hb
  iexists _; isplitr
  swap; · iexact Ho
  ipureintro
  rw [View.read_writes_full, View.readAt_full, View.readAt_full, View.readAt_full]
  rfl

section Data
variable (V : (c : Dev nD) → (b : Ref sig .tc) → Buf (Elt F) ((c : Thread nD τ).loc b))

/-- Window `w`'s block at point `t`, cut out of its array as the launch finds it. -/
def blkAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The launch's proof data: the arrays as found; after a body the inputs' buffers hold their blocks still and
    the output's holds `xhBlock` of them; nothing else moves. -/
def dat (c : Dev nD) : Dat τ (Elt F) Unit ℕ (UR sig nD τ) ℕ cfg0 c where
  A w := V c (Pipeline.arrRef spec0 w)
  after w t := match w with
    | ⟨0, _⟩ => blkAt V c 0 t
    | ⟨1, _⟩ => blkAt V c 1 t
    | ⟨2, _⟩ => blkAt V c 2 t
    | ⟨3, _⟩ => xhBlock (blkAt V c 0 t) (blkAt V c 1 t) (blkAt V c 2 t)
  Φ _ := Pipeline.ΦA spec0 c
  q _ := fullShare
  owed _ := 0

theorem dat_A (c : Dev nD) (w : Fin cfg0.W) : (dat V c).A w = V c (Pipeline.arrRef spec0 w) := by dsimp only [dat]
theorem dat_after0 (c : Dev nD) (t : Fin cfg0.N) : (dat V c).after 0 t = blkAt V c 0 t := by dsimp only [dat]
theorem dat_after1 (c : Dev nD) (t : Fin cfg0.N) : (dat V c).after 1 t = blkAt V c 1 t := by dsimp only [dat]
theorem dat_after2 (c : Dev nD) (t : Fin cfg0.N) : (dat V c).after 2 t = blkAt V c 2 t := by dsimp only [dat]
theorem dat_after3 (c : Dev nD) (t : Fin cfg0.N) :
    (dat V c).after 3 t = xhBlock (blkAt V c 0 t) (blkAt V c 1 t) (blkAt V c 2 t) := by dsimp only [dat]

/-- An input window's buffer holds its block when a body starts, fetched at this point or kept from an earlier
    one: the window's block has not moved since. -/
theorem dat_before0 (c : Dev nD) (t : Fin cfg0.N) (d) : (dat V c).before 0 t d = blkAt V c 0 t :=
  (dat V c).before_in_eq_fetched 0 rfl (fun _ => rfl) (fun _ _ _ => rfl) (fun t => by rw [dat_after0]; rfl) t d
theorem dat_before1 (c : Dev nD) (t : Fin cfg0.N) (d) : (dat V c).before 1 t d = blkAt V c 1 t :=
  (dat V c).before_in_eq_fetched 1 rfl (fun _ => rfl) (fun _ _ _ => rfl) (fun t => by rw [dat_after1]; rfl) t d
theorem dat_before2 (c : Dev nD) (t : Fin cfg0.N) (d) : (dat V c).before 2 t d = blkAt V c 2 t :=
  (dat V c).before_in_eq_fetched 2 rfl (fun _ => rfl) (fun _ _ _ => rfl) (fun t => by rw [dat_after2]; rfl) t d

/-- What a body starts from at point `t`, window by window, -/
def pre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it leaves. -/
def post (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point leads from the one to the other: the input buffers hold their blocks, so `body_run`
    applies, and the rest is carried past it. -/
theorem body_at (c : Dev nD) (t : Fin cfg0.N) :
    pre V c t ⊢ wp frame (wpE (defs₀ (F := F)) Variants.none c none) Set.univ (bodyAt0 t) (fun _ => post V c t) := by
  unfold pre post bodyAt0
  simp only [dat_before0, dat_before1, dat_before2]
  rw [show (dat V c).Φ t.succ = (dat V c).Φ t.castSucc from rfl,
    show (dat V c).owesAt () t.succ = (dat V c).owesAt () t.castSucc from rfl,
    dat_after0, dat_after1, dat_after2, dat_after3]
  iintro ⟨HΦ, Hw, ⟨%d0, H0⟩, ⟨%d1, H1⟩, ⟨%d2, H2⟩, ⟨%d3, H3⟩⟩
  iapply (body_run c Set.univ (grid0.coords t) _ _ _ _ _ _ _ _ (blkAt V c 0 t) (blkAt V c 1 t) (blkAt V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Hw]; · iexact Hw
  isplitl [H0]; · iexact H0
  isplitl [H1]; · iexact H1
  isplitl [H2]; · iexact H2
  iexact H3

/-- The body the launch calls at point `t` is the printed one on that point's buffers. -/
theorem row (t : Fin cfg0.N) : defs₀ (F := F) .tc cfg0.body (cfg0.bodyArgs t (cfg0.slots t)) = bodyAt0 t := by
  unfold defs₀; rw [Defs.onTc_tc]

/-- What the launch asks of its body, at every point. -/
theorem obligation (c : Dev nD) : BodyObligation (dat (F := F) V c) (defs₀ (F := F)) Variants.none () Set.univ := fun t => by
  rw [bigSep_W0, bigSep_W0, row]
  exact triple_restated (body_at V c t) rfl .rfl fun _ => .rfl

end Data

end Cert.Proof.X2h

end
-- ==== Proof.ScanStep.lean ====
/- WHAT ONE BODY OF THE SECOND LAUNCH COMPUTES.

   The body holds a hidden state `h` and a block of 16 rows of the projected sequence. It takes the
   16 rows one after the other: `h` becomes `max (row + h · W) 0`. The printed body spells the 16 steps out,
   in five stretches; here they are one step, iterated. -/
module

public import proofs.«01_k».proof.Proof.Gen.KernelIdeal.Skeleton
public import Idealize.ShloMosaic.Lib.Pipeline.FrameBody
public import Idealize.ShloMosaic.Lib.Pipeline.Value

@[expose] public section

set_option maxRecDepth 16384

noncomputable section

namespace Cert.Proof.Scan

open Cert.KernelIdeal Cert.KernelIdeal.Gen
open Idealize.ShloMosaic

variable {F : FTy → Type} [FloatOps F]

/-- The part of the block that is row `u`, for `u` below 16. -/
abbrev rowRect (u : ℕ) : Rect S16x64x2048 :=
  Rect.unit (s := S16x64x2048) ![u % 16, 0, 0] S1x64x2048.size (by
    have := Nat.mod_lt u (show 16 > 0 by decide)
    intro a; fin_cases a
    · show u % 16 + 1 ≤ 16; omega
    · show 0 + 64 ≤ 64; omega
    · show 0 + 2048 ≤ 2048; omega)

/-- Row `u` of the block. -/
abbrev row (X : Vec F S16x64x2048 .bf16) (u : ℕ) : Vec F S1x64x2048 .bf16 := View.ld X (rowRect u)

/-- One step of the recurrence: `max (x + h · W) 0`. -/
def step (W : Vec F S2048x2048 .bf16) (h : FVec F S64x2048 .f32) (x : Vec F S1x64x2048 .bf16) : FVec F S64x2048 .f32 :=
  maximumf
    (addf (extf .f32 (shapeCast S64x2048 x shapeCasts_S1x64x2048_S64x2048 : FVec F S64x2048 .bf16) bitsLt_bf16_f32)
      (matmul dot_S64x2048_S2048x2048_S64x2048_1_0_0_1_n_n none (truncf .bf16 h bitsLt_bf16_f32)
        (shapeCast S2048x2048 W shapeCasts_S2048x2048_S2048x2048 : FVec F S2048x2048 .bf16) (constant S64x2048 .f32 0x00000000#32)))
    (broadcast S64x2048 (Scalar.ofBits .f32 0x00000000#32 : F .f32))

/-- The hidden state after the first `n` rows of the block. -/
def steps (W : Vec F S2048x2048 .bf16) (X : Vec F S16x64x2048 .bf16) (h : FVec F S64x2048 .f32) : ℕ → FVec F S64x2048 .f32
  | 0 => h
  | n + 1 => step W (steps W X h n) (row X n)

/-- The hidden state the recurrence starts from. -/
def zeroState : FVec F S64x2048 .f32 := k1_pay4

/-- The result read off the last hidden state: `h · Wy + b`. -/
def readout (Wy : Vec F S2048x1024 .bf16) (b : Vec F S1x1024 .f32) (h : FVec F S64x2048 .f32) : FVec F S64x1024 .f32 :=
  addf
    (matmul dot_S64x2048_S2048x1024_S64x1024_1_0_0_1_n_n none (truncf .bf16 h bitsLt_bf16_f32)
      (shapeCast S2048x1024 Wy shapeCasts_S2048x1024_S2048x1024 : FVec F S2048x1024 .bf16) (constant S64x1024 .f32 0x00000000#32))
    (broadcastTo S64x1024 (shapeCast S1x1024 b shapeCasts_S1x1024_S1x1024 : FVec F S1x1024 .f32) broadcasts_S1x1024_S64x1024)

/-- The product of the printed body after its first three stretches: the eleventh state's is still to come. -/
theorem head_eq (W : Vec F S2048x2048 .bf16) (X : Vec F S16x64x2048 .bf16) (h : FVec F S64x2048 .f32) :
    k1_pay8 (k1_pay7 (k1_pay5 h W (row X 0) W (row X 1) W (row X 2)) k1_pay6 W (row X 3) W (row X 4) W (row X 5) W)
      (row X 6) W (row X 7) W (row X 8) W (row X 9) = steps W X h 10 := rfl

/-- The last two stretches are six more steps. -/
theorem tail_eq (W : Vec F S2048x2048 .bf16) (X : Vec F S16x64x2048 .bf16) (h : FVec F S64x2048 .f32) :
    k1_pay1 (k1_pay9 (steps W X h 10) W (row X 10) W (row X 11) W (row X 12) W) (row X 13) W (row X 14) W (row X 15)
      = steps W X h 16 := rfl

/-- The printed body's final state, from what it loads: the state after 16 steps. -/
theorem chain_eq (W : Vec F S2048x2048 .bf16) (X : Vec F S16x64x2048 .bf16) (h : FVec F S64x2048 .f32) :
    k1_pay1 (k1_pay9 (k1_pay8 (k1_pay7 (k1_pay5 h W (row X 0) W (row X 1) W (row X 2)) k1_pay6 W (row X 3) W (row X 4) W (row X 5) W)
      (row X 6) W (row X 7) W (row X 8) W (row X 9)) W (row X 10) W (row X 11) W (row X 12) W) (row X 13) W (row X 14) W (row X 15)
      = steps W X h 16 := by
  rw [head_eq, tail_eq]

/-- What the printed body stores as the state is the state after 16 steps. -/
theorem stored_state (W : Vec F S2048x2048 .bf16) (X : Vec F S16x64x2048 .bf16) (h : FVec F S64x2048 .f32) :
    k1_pay2 (k1_pay9 (k1_pay8 (k1_pay7 (k1_pay5 h W (row X 0) W (row X 1) W (row X 2)) k1_pay6 W (row X 3) W (row X 4) W (row X 5) W)
      (row X 6) W (row X 7) W (row X 8) W (row X 9)) W (row X 10) W (row X 11) W (row X 12) W) (row X 13) W (row X 14) W (row X 15)
      = steps W X h 16 :=
  (congrArg (fun z => shapeCast S64x2048 z shapeCasts_S64x2048_S64x2048) (chain_eq W X h)).trans (shapeCast_self _ _)

/-- What the printed body stores as the result is the read-out of the state after 16 steps. -/
theorem stored_result (W : Vec F S2048x2048 .bf16) (X : Vec F S16x64x2048 .bf16) (h : FVec F S64x2048 .f32)
    (Wy : Vec F S2048x1024 .bf16) (b : Vec F S1x1024 .f32) :
    k1_pay3 (k1_pay9 (k1_pay8 (k1_pay7 (k1_pay5 h W (row X 0) W (row X 1) W (row X 2)) k1_pay6 W (row X 3) W (row X 4) W (row X 5) W)
      (row X 6) W (row X 7) W (row X 8) W (row X 9)) W (row X 10) W (row X 11) W (row X 12) W) (row X 13) W (row X 14) W (row X 15) Wy b
      = readout Wy b (steps W X h 16) :=
  congrArg (readout Wy b) (chain_eq W X h)

end Cert.Proof.Scan

end
-- ==== Proof.ScanBody.lean ====
/- THE SECOND LAUNCH'S BODY RUNS, and leaves what `ScanStep` says.

   The body keeps its hidden state in a buffer of its own. At the first grid point it first clears that
   buffer; at the last one it also writes the result. -/
module

public import proofs.«01_k».proof.Proof.Gen.KernelIdeal.Launch
public import proofs.«01_k».proof.Proof.Gen.KernelIdeal.Points
public import proofs.«01_k».proof.Proof.ScanStep
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Proof.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body's first question, as printed: is this the first point? -/
abbrev isFirst (i : grid1.Coords) : Prop :=
  (Scalar.cmpi .ne (Scalar.extui (Scalar.cmpi .eq (BitVec.ofNat 32 (i 0).val) 0#32)) 0#32) = 1#1

/-- The body's second question: is this the last point? -/
abbrev isLast (i : grid1.Coords) : Prop := k1_cond2 i = 1#1

/-- The state a body leaves, from its block, the weights and the state it found. -/
def stateAfter (i : grid1.Coords) (W : Vec F S2048x2048 .bf16) (X : Vec F S16x64x2048 .bf16) (s : Vec F S64x2048 .f32) : Vec F S64x2048 .f32 :=
  steps W X (if isFirst i then zeroState else s) 16

/-- What a body leaves in the result's buffer: the read-out at the last point, otherwise what was there. -/
def resultAfter (i : grid1.Coords) (Wy : Vec F S2048x1024 .bf16) (b : Vec F S1x1024 .f32) (s : Vec F S64x2048 .f32) (d : Vec F S64x1024 .f32) : Vec F S64x1024 .f32 :=
  if isLast i then readout Wy b s else d

/-- The state after 16 steps depends on the weights and the starting state by their values. -/
theorem steps_congr {W W' : Vec F S2048x2048 .bf16} (X : Vec F S16x64x2048 .bf16) {h h' : Vec F S64x2048 .f32} (eW : W = W') (eh : h = h') :
    steps W X h 16 = steps W' X h' 16 := by subst eW eh; rfl

attribute [local irreducible] k1_pay1 k1_pay2 k1_pay3 k1_pay4 k1_pay5 k1_pay6 k1_pay7 k1_pay8 k1_pay9 steps

set_option maxHeartbeats 4000000 in
/-- One body: it reads its block, the two weights and the bias and leaves them alone; the state's buffer goes
    from `s` to `stateAfter`, and the result's from `d` to `resultAfter`. -/
theorem body_run (c : Dev nD) (E : Set ℕ) (i : grid1.Coords)
    (aX : Memref sig .tc .vmem S16x64x2048 .bf16) (hX : aX.IsWhole) (aW : Memref sig .tc .vmem S2048x2048 .bf16) (hW : aW.IsWhole)
    (aY : Memref sig .tc .vmem S2048x1024 .bf16) (hY : aY.IsWhole) (ab : Memref sig .tc .vmem S1x1024 .f32) (hb : ab.IsWhole)
    (ao : Memref sig .tc .vmem S64x1024 .f32) (ho : ao.IsWhole) (ah : Memref sig .tc .vmem S64x2048 .f32) (hs : ah.IsWhole)
    (X : Vec F S16x64x2048 .bf16) (W : Vec F S2048x2048 .bf16) (Wy : Vec F S2048x1024 .bf16) (b : Vec F S1x1024 .f32)
    (d : Vec F S64x1024 .f32) (s : Vec F S64x2048 .f32) (K : PUnit → sProp 𝕄) :
    iprop(owns (c : Thread nD τ) aX fullShare X ∗ owns (c : Thread nD τ) aW fullShare W ∗ owns (c : Thread nD τ) aY fullShare Wy
        ∗ owns (c : Thread nD τ) ab fullShare b ∗ owns (c : Thread nD τ) ao fullShare d ∗ owns (c : Thread nD τ) ah fullShare s
        ∗ (iprop(owns (c : Thread nD τ) aX fullShare X ∗ owns (c : Thread nD τ) aW fullShare W ∗ owns (c : Thread nD τ) aY fullShare Wy
            ∗ owns (c : Thread nD τ) ab fullShare b
            ∗ owns (c : Thread nD τ) ao fullShare (resultAfter i Wy b (stateAfter i W X s) d)
            ∗ owns (c : Thread nD τ) ah fullShare (stateAfter i W X s)) -∗ K ⟨⟩))
      ⊢ wp frame (wpE (defs₀ (F := F)) Variants.none c none) E (cc1__scan_kernel i aX hX aW hW aY hY ab hb ao ho ah hs) K := by
  simp only [cc1__scan_kernel_eq_skeleton, k1_part1_eq_skeleton, k1_part2_eq_skeleton, k1_part3_eq_skeleton, k1_part4_eq_skeleton]
  unfold cc1__scan_kernel_skel
  unfold owns
  iintro ⟨⟨%fX, %eX, HX⟩, ⟨%fW, %eW, HW⟩, ⟨%fY, %eY, HY⟩, ⟨%fb, %eb, Hb⟩, ⟨%fo, %eo, Ho⟩, ⟨%fs, %es, Hs⟩, Hk⟩
  subst eX eW eY eb eo es
  by_cases h0 : isFirst i <;> by_cases h1 : isLast i
  all_goals
    sl_exec (disch := first | sl_exact h0 | sl_exact h1)
    sl_step
    iapply Hk
    isplitl [HX]
    · iexists fX; isplitr; · ipureintro; rfl
      iexact HX
    isplitl [HW]
    · iexists fW; isplitr; · ipureintro; rfl
      iexact HW
    isplitl [HY]
    · iexists fY; isplitr; · ipureintro; rfl
      iexact HY
    isplitl [Hb]
    · iexists fb; isplitr; · ipureintro; rfl
      iexact Hb
    isplitl [Ho]
    · iexists _; isplitr
      swap; · iexact Ho
      ipureintro
      first
        | exact (if_neg h1).symm
        | rw [View.read_writes_full]
          refine (stored_result (View.readAt (Elt F) aW.view (Rect.unit ![0, 0] S2048x2048.size inb_S2048x2048_S2048x2048_0_0).toLoadRect fW)
            (View.read (Elt F) aX.view fX) _ _ _).trans (Eq.trans ?_ (if_pos h1).symm)
          rw [View.readAt_full aY.view, View.readAt_full ab.view]
          refine congrArg (readout _ _) (steps_congr _ (View.readAt_full _ _ _) ?_)
          first
            | exact (View.readCov_full _ _ _ _ _).trans (if_pos h0).symm
            | exact (View.readAt_full _ _ _).trans (if_neg h0).symm
    iexists _; isplitr
    swap; · iexact Hs
    ipureintro
    rw [View.read_writes_full]
    refine (stored_state (View.readAt (Elt F) aW.view (Rect.unit ![0, 0] S2048x2048.size inb_S2048x2048_S2048x2048_0_0).toLoadRect fW)
      (View.read (Elt F) aX.view fX) _).trans (steps_congr _ (View.readAt_full _ _ _) ?_)
    first
      | exact (View.readCov_full _ _ _ _ _).trans (if_pos h0).symm
      | exact (View.readAt_full _ _ _).trans (if_neg h0).symm

end Cert.Proof.Scan

end
-- ==== Proof.ScanRegion.lean ====
/- THE SECOND LAUNCH: the recurrence, at any contents `V` it finds.

   32 grid points, one body each. The hidden state is carried from body to body in a buffer of the launch's
   own; the result is written once, by the last body. Here: the state before each point, the launch's proof
   data with the carried state in its invariant, and that each body keeps the invariant. -/
module

public import proofs.«01_k».proof.Proof.ScanBody

@[expose] public section

set_option maxRecDepth 16384

noncomputable section

namespace Cert.Proof.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-- The body's first question holds at point 0 only. -/
theorem isFirst_iff : ∀ t : Fin cfg1.N, isFirst (grid1.coords t) ↔ t.val = 0 :=
  (fun t => by
    have ht : t.val < 32 := Nat.lt_of_lt_of_eq t.isLt N_1
    have e0 : (grid1.coords t 0).val = t.val / 1 % 32 := Pipeline.Grid.coords_val t 0 (by decide) rfl
    have e : t.val = 0 ↔ t.val % 32 = 0 := by omega
    rw [e]
    simp only [isFirst, e0]
    word_cmp
   : ∀ t : Fin grid1.N, isFirst (grid1.coords t) ↔ t.val = 0)

/-- The body's second question holds at point 31 only. -/
theorem isLast_iff : ∀ t : Fin cfg1.N, isLast (grid1.coords t) ↔ t.val = 31 :=
  (fun t => by
    have ht : t.val < 32 := Nat.lt_of_lt_of_eq t.isLt N_1
    have e0 : (grid1.coords t 0).val = t.val / 1 % 32 := Pipeline.Grid.coords_val t 0 (by decide) rfl
    have e : t.val = 31 ↔ t.val % 32 = 31 := by omega
    rw [e]
    simp only [isLast, k1_cond2, e0]
    word_cmp
   : ∀ t : Fin grid1.N, isLast (grid1.coords t) ↔ t.val = 31)

/-- The launch leaves the result's buffer alone at every point but the last, -/
theorem result_idle : ∀ t : Fin cfg1.N, t.val ≠ 31 → cfg1.idle 4 (grid1.coords t) = true := by decide +kernel
/-- writes nothing back there, -/
theorem result_kept : ∀ t : Fin cfg1.N, t.val ≠ 31 → (cfg1.win 4).flush t = false := by decide +kernel
/-- and does use it at the last. -/
theorem result_live : ∀ t : Fin cfg1.N, t.val = 31 → cfg1.idle 4 (grid1.coords t) = false := by decide +kernel

section Data
variable (V : (c : Dev nD) → (b : Ref sig .tc) → Buf (Elt F) ((c : Thread nD τ).loc b))

/-- Window `w`'s block at point `t`, cut out of its array as the launch finds it. -/
def blkAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The hidden state before point `n`. -/
def hidden (c : Dev nD) : ℕ → Vec F S64x2048 .f32
  | 0 => zeroState
  | n + 1 => if h : n < cfg1.N then steps (blkAt V c 1 ⟨n, h⟩) (blkAt V c 0 ⟨n, h⟩) (hidden c n) 16 else hidden c n

theorem hidden_succ (c : Dev nD) (t : Fin cfg1.N) :
    hidden V c (t.val + 1) = steps (blkAt V c 1 t) (blkAt V c 0 t) (hidden V c t.val) 16 := dif_pos t.isLt

/-- The body takes the state before a point to the state before the next one; at the first point it does so
    whatever the buffer held. -/
theorem stateAfter_eq (c : Dev nD) (t : Fin cfg1.N) (s : Vec F S64x2048 .f32) (hs : t.val ≠ 0 → s = hidden V c t.val) :
    stateAfter (grid1.coords t) (blkAt V c 1 t) (blkAt V c 0 t) s = hidden V c (t.val + 1) := by
  rw [hidden_succ, stateAfter]
  by_cases h : t.val = 0
  · rw [if_pos ((isFirst_iff t).mpr h), h]; rfl
  · rw [if_neg (fun h' => h ((isFirst_iff t).mp h')), hs h]

/-- The launch's own buffer for the state, as a body is handed it. -/
abbrev stateRef : Memref sig .tc .vmem S64x2048 .f32 := Memref.whole cc1_scratch0

/-- The buffers the launch holds and never uses: the first launch's staging buffers, at anything. -/
def idleRest (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The launch's invariant before point `n`: the state's buffer holds `hidden n` — before the first point,
    anything —, the unused buffers and the generator register are at anything. -/
def inv (c : Dev nD) (n : ℕ) : sProp 𝕄 :=
  iprop(idleRest c ∗ (∃ s, iprop(⌜n ≠ 0 → s = hidden V c n⌝ ∗ owns (c : Thread nD τ) stateRef fullShare s)) ∗ (∃ r, prngReg c r))

/-- The launch's proof data: the arrays as found; after a body the inputs' buffers hold their blocks still, the
    result's the read-out of the state; the state itself is in the invariant. -/
def dat (c : Dev nD) : Dat τ (Elt F) Unit ℕ (UR sig nD τ) ℕ cfg1 c where
  A w := V c (Pipeline.arrRef spec1 w)
  after w t := match w with
    | ⟨0, _⟩ => blkAt V c 0 t
    | ⟨1, _⟩ => blkAt V c 1 t
    | ⟨2, _⟩ => blkAt V c 2 t
    | ⟨3, _⟩ => blkAt V c 3 t
    | ⟨4, _⟩ => readout (blkAt V c 2 t) (blkAt V c 3 t) (hidden V c (t.val + 1))
  Φ t := inv V c t.val
  q _ := fullShare
  owed _ := 0

theorem dat_A (c : Dev nD) (w : Fin cfg1.W) : (dat V c).A w = V c (Pipeline.arrRef spec1 w) := by dsimp only [dat]
theorem dat_Φ (c : Dev nD) (t : Fin (cfg1.N + 1)) : (dat V c).Φ t = inv V c t.val := by dsimp only [dat]
theorem dat_after0 (c : Dev nD) (t : Fin cfg1.N) : (dat V c).after 0 t = blkAt V c 0 t := by dsimp only [dat]
theorem dat_after1 (c : Dev nD) (t : Fin cfg1.N) : (dat V c).after 1 t = blkAt V c 1 t := by dsimp only [dat]
theorem dat_after2 (c : Dev nD) (t : Fin cfg1.N) : (dat V c).after 2 t = blkAt V c 2 t := by dsimp only [dat]
theorem dat_after3 (c : Dev nD) (t : Fin cfg1.N) : (dat V c).after 3 t = blkAt V c 3 t := by dsimp only [dat]
theorem dat_after4 (c : Dev nD) (t : Fin cfg1.N) :
    (dat V c).after 4 t = readout (blkAt V c 2 t) (blkAt V c 3 t) (hidden V c (t.val + 1)) := by dsimp only [dat]

/-- An input window's buffer holds its block when a body starts, fetched at this point or kept from an earlier
    one: the window's block has not moved since. -/
theorem dat_before0 (c : Dev nD) (t : Fin cfg1.N) (d) : (dat V c).before 0 t d = blkAt V c 0 t :=
  (dat V c).before_in_eq_fetched 0 rfl (fun _ => rfl) (fun _ _ _ => rfl) (fun t => by rw [dat_after0]; rfl) t d
theorem dat_before1 (c : Dev nD) (t : Fin cfg1.N) (d) : (dat V c).before 1 t d = blkAt V c 1 t :=
  (dat V c).before_in_eq_fetched 1 rfl (fun _ => rfl) (fun _ _ _ => rfl) (fun t => by rw [dat_after1]; rfl) t d
theorem dat_before2 (c : Dev nD) (t : Fin cfg1.N) (d) : (dat V c).before 2 t d = blkAt V c 2 t :=
  (dat V c).before_in_eq_fetched 2 rfl (fun _ => rfl) (fun _ _ _ => rfl) (fun t => by rw [dat_after2]; rfl) t d
theorem dat_before3 (c : Dev nD) (t : Fin cfg1.N) (d) : (dat V c).before 3 t d = blkAt V c 3 t :=
  (dat V c).before_in_eq_fetched 3 rfl (fun _ => rfl) (fun _ _ _ => rfl) (fun t => by rw [dat_after3]; rfl) t d

/-- What a body starts from at point `t`, window by window, -/
def pre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it leaves. -/
def post (c : Dev nD) (t : Fin cfg1.N) : sProp 𝕄 :=
  iprop((dat V c).Φ t.succ ∗ (dat V c).owesAt () t.succ
    ∗ owns (c : Thread nD τ) (st1_0 t) fullShare (blkAt V c 0 t)
    ∗ owns (c : Thread nD τ) (st1_1 t) fullShare (blkAt V c 1 t)
    ∗ owns (c : Thread nD τ) (st1_2 t) fullShare (blkAt V c 2 t)
    ∗ owns (c : Thread nD τ) (st1_3 t) fullShare (blkAt V c 3 t)
    ∗ (dat V c).leavesExact 4 t)

/-- The result's buffer as the body leaves it is what the launch expects there, at the last point and before. -/
theorem result_left (c : Dev nD) (t : Fin cfg1.N) (d) :
    (owns (c : Thread nD τ) (st1_4 t) fullShare
        (resultAfter (grid1.coords t) (blkAt V c 2 t) (blkAt V c 3 t) (hidden V c (t.val + 1)) ((dat V c).before 4 t d)) : sProp 𝕄)
      ⊢ (dat V c).leavesExact 4 t := by
  unfold resultAfter
  by_cases h : t.val = 31
  · rw [if_pos ((isLast_iff t).mpr h)]
    unfold Dat.leavesExact
    rw [result_live t h, dat_after4]
  · rw [if_neg (fun h' => h ((isLast_iff t).mp h')), Dat.leavesExact_idle (dat V c) 4 t (result_idle t h) (result_kept t h)]
    iintro H
    iexists d
    iexact H

/-- The body at any point leads from the one to the other. -/
theorem body_at (c : Dev nD) (t : Fin cfg1.N) :
    pre V c t ⊢ wp frame (wpE (defs₀ (F := F)) Variants.none c none) Set.univ (bodyAt1 t) (fun _ => post V c t) := by
  unfold pre post bodyAt1
  simp only [dat_before0, dat_before1, dat_before2, dat_before3]
  rw [show (dat V c).owesAt () t.succ = (dat V c).owesAt () t.castSucc from rfl, dat_Φ, dat_Φ,
    show (t.castSucc).val = t.val from rfl, show (t.succ).val = t.val + 1 from rfl]
  unfold inv
  iintro ⟨⟨HR, ⟨%s, %hs, Hs⟩, Hg⟩, Hw, ⟨%d0, H0⟩, ⟨%d1, H1⟩, ⟨%d2, H2⟩, ⟨%d3, H3⟩, ⟨%d4, H4⟩⟩
  iapply (body_run c Set.univ (grid1.coords t) _ _ _ _ _ _ _ _ _ _ _ _ (blkAt V c 0 t) (blkAt V c 1 t) (blkAt V c 2 t) (blkAt V c 3 t) _ s _)
  rw [stateAfter_eq V c t s hs]
  isplitl [H0]; · iexact H0
  isplitl [H1]; · iexact H1
  isplitl [H2]; · iexact H2
  isplitl [H3]; · iexact H3
  isplitl [H4]; · iexact H4
  isplitl [Hs]; · iexact Hs
  iintro ⟨H0, H1, H2, H3, H4, Hs⟩
  isplitl [HR Hs Hg]
  · isplitl [HR]; · iexact HR
    isplitl [Hs]
    · iexists _; isplitr
      swap; · iexact Hs
      ipureintro; intro _; rfl
    iexact Hg
  isplitl [Hw]; · iexact Hw
  isplitl [H0]; · iexact H0
  isplitl [H1]; · iexact H1
  isplitl [H2]; · iexact H2
  isplitl [H3]; · iexact H3
  iapply (result_left V c t d4)
  iexact H4

/-- The body the launch calls at point `t` is the printed one on that point's buffers. -/
theorem row_at (t : Fin cfg1.N) : defs₀ (F := F) .tc cfg1.body (cfg1.bodyArgs t (cfg1.slots t)) = bodyAt1 t := by
  unfold defs₀; rw [Defs.onTc_tc]

/-- What the launch asks of its body, at every point. -/
theorem obligation (c : Dev nD) : BodyObligation (dat (F := F) V c) (defs₀ (F := F)) Variants.none () Set.univ := fun t => by
  rw [bigSep_W1, bigSep_W1, row_at]
  exact triple_restated (body_at V c t) rfl .rfl fun _ => .rfl

/-- What the launch is handed, with the state's buffer named. -/
theorem handed_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ d, owns (c : Thread nD τ) stateRef fullShare d)) ∗ (∃ r, prngReg c r)) := by
  unfold Pipeline.ΦA; rw [scopedRest1_eq]; simp only [stateRef, owns_whole]; try rfl

/-- What the launch is handed gives the invariant before the first point, -/
theorem inv_of_handed (c : Dev nD) : Pipeline.ΦA spec1 c ⊢ (dat (F := F) V c).Φ 0 := by
  rw [dat_Φ, handed_eq]
  unfold inv idleRest
  iintro ⟨⟨H0, H1, H2, H3, H4, H5, ⟨%s, Hs⟩⟩, Hg⟩
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [Hs]
  · iexists s; isplitr
    swap; · iexact Hs
    ipureintro; intro h; exact absurd rfl h
  iexact Hg

/-- and the invariant after the last point gives back what the launch was handed. -/
theorem handed_of_inv (c : Dev nD) (t : Fin (cfg1.N + 1)) : (dat (F := F) V c).Φ t ⊢ Pipeline.ΦA spec1 c := by
  rw [dat_Φ, handed_eq]
  unfold inv idleRest
  iintro ⟨⟨H0, H1, H2, H3, H4, H5⟩, ⟨%s, %hs, Hs⟩, Hg⟩
  isplitl [H0 H1 H2 H3 H4 H5 Hs]
  · isplitl [H0]; · iexact H0
    isplitl [H1]; · iexact H1
    isplitl [H2]; · iexact H2
    isplitl [H3]; · iexact H3
    isplitl [H4]; · iexact H4
    isplitl [H5]; · iexact H5
    iexists s; iexact Hs
  iexact Hg

end Data

end Cert.Proof.Scan

end
-- ==== Proof.Launch.lean ====
/- THE WHOLE PROGRAM RUNS: a host stretch, the projection's launch, the recurrence's launch.

   The contents of the buffers are followed from one boundary to the next; the program ends with every buffer
   at the last boundary's contents, which names the result and shows the arguments unchanged, and with
   every semaphore at zero. Stated at any float interpretation `F`. -/
module

public import proofs.«01_k».proof.Proof.X2hRegion
public import proofs.«01_k».proof.Proof.ScanRegion
public import proofs.«01_k».proof.Proof.Gen.KernelIdeal.Regions
public import Idealize.ShloMosaic.Lib.Pipeline.RegionsLoop
public import Idealize.ShloMosaic.Lib.Pipeline.FrameSuffix

@[expose] public section

set_option maxRecDepth 16384

noncomputable section

namespace Cert.Proof.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- The argument arrays. -/
abbrev args : List (Ref sig .tc) := [main_arg0, main_arg1, main_arg2, main_arg3, main_arg4, main_arg5]

/-- Core `c`'s buffers at the start. -/
abbrev C0 : Dev nD → Valuation τ sig (Elt F) := fun c b => m ((c : Dev nD), b)

/-- After the host stretch: what the projection's launch finds. -/
abbrev C1 : Dev nD → Valuation τ sig (Elt F) := fun c => StableHlo.after hostOps0 (C0 m c)

/-- The same, at the core's own references. -/
abbrev V1 : (c : Dev nD) → (b : Ref sig .tc) → Buf (Elt F) ((c : Thread nD τ).loc b) := fun c b => C1 m c b

/-- After the projection's launch: its arrays as its write-backs leave them, every other buffer as it was. -/
def C2 (c : Dev nD) : Valuation τ sig (Elt F) :=
  Pipeline.withArrays spec0 c (C1 m c) fun w => (X2h.dat (V1 m) c).arrAt w cfg0.N

/-- The same, at the core's own references: what the recurrence's launch finds. -/
abbrev V2 : (c : Dev nD) → (b : Ref sig .tc) → Buf (Elt F) ((c : Thread nD τ).loc b) := fun c b => C2 m c b

/-- After the recurrence's launch, at the end. -/
def C3 (c : Dev nD) : Valuation τ sig (Elt F) :=
  Pipeline.withArrays spec1 c (C2 m c) fun w => (Scan.dat (V2 m) c).arrAt w cfg1.N

/-- The same, at the core's own references. -/
abbrev V3 : (c : Dev nD) → (b : Ref sig .tc) → Buf (Elt F) ((c : Thread nD τ).loc b) := fun c b => C3 m c b

/-! ## What each item leaves alone -/

/-- The host stretch leaves alone every buffer it does not write. -/
theorem C1_of (c : Dev nD) (r : Ref sig .tc) (h : r ∉ hostOps0_W) : C1 m c (Proc.devRef .tc r) = C0 m c (Proc.devRef .tc r) :=
  StableHlo.after_of_writes_sub hostOps0 _ hostOps0_writes h

theorem C2_arr (c : Dev nD) (w : Fin cfg0.W) :
    C2 m c (Proc.devRef .tc (Pipeline.arrRef spec0 w)) = (X2h.dat (V1 m) c).arrAt w cfg0.N := by
  unfold C2; exact Pipeline.withArrays_arr spec0 launch0.win.arr_inj c _ _ w

theorem C2_ne (c : Dev nD) (b : Ref sig .tc) (hb : ∀ w, Pipeline.arrRef spec0 w ≠ b) :
    C2 m c (Proc.devRef .tc b) = C1 m c (Proc.devRef .tc b) := by
  unfold C2; exact Pipeline.withArrays_of_ne spec0 c _ _ b hb

/-- The projection's launch leaves alone every buffer that is not its output array. -/
theorem C2_of (c : Dev nD) (r : Ref sig .tc) (h : ∀ w : Fin cfg0.W, Pipeline.arrRef spec0 w = r → (cfg0.win w).isOut = false) :
    C2 m c (Proc.devRef .tc r) = C1 m c (Proc.devRef .tc r) := by
  by_cases hw : ∃ w : Fin cfg0.W, Pipeline.arrRef spec0 w = r
  · obtain ⟨w, rfl⟩ := hw
    exact (C2_arr m c w).trans (((X2h.dat (V1 m) c).arrAt_in w (h w rfl) _).trans (X2h.dat_A (V1 m) c w))
  · exact C2_ne m c r fun w e => hw ⟨w, e⟩

theorem C3_arr (c : Dev nD) (w : Fin cfg1.W) :
    C3 m c (Proc.devRef .tc (Pipeline.arrRef spec1 w)) = (Scan.dat (V2 m) c).arrAt w cfg1.N := by
  unfold C3; exact Pipeline.withArrays_arr spec1 launch1.win.arr_inj c _ _ w

theorem C3_ne (c : Dev nD) (b : Ref sig .tc) (hb : ∀ w, Pipeline.arrRef spec1 w ≠ b) :
    C3 m c (Proc.devRef .tc b) = C2 m c (Proc.devRef .tc b) := by
  unfold C3; exact Pipeline.withArrays_of_ne spec1 c _ _ b hb

/-- The arguments are as at the start when the projection's launch begins, -/
theorem C1_args (c : Dev nD) : ∀ a ∈ args, C1 m c (Proc.devRef .tc a) = m ((c : Thread nD τ).loc a) :=
  fun a ha => C1_of m c a ((ListAll.forall_mem_of_all_decide (by decide +kernel) : ∀ a ∈ args, a ∉ hostOps0_W) a ha)

/-- when it ends (it reads the first one and leaves the others alone), -/
theorem C2_args (c : Dev nD) : ∀ a ∈ args, C2 m c (Proc.devRef .tc a) = m ((c : Thread nD τ).loc a) :=
  fun a ha => (C2_of m c a ((ListAll.forall_mem_of_all_decide (by decide +kernel) :
    ∀ a ∈ args, ∀ w : Fin cfg0.W, Pipeline.arrRef spec0 w = a → (cfg0.win w).isOut = false) a ha)).trans (C1_args m c a ha)

/-- and at the end (the recurrence's launch touches none). -/
theorem C3_args (c : Dev nD) : ∀ a ∈ args, C3 m c (Proc.devRef .tc a) = m ((c : Thread nD τ).loc a) :=
  fun a ha => (C3_ne m c a ((ListAll.forall_mem_of_all_decide (by decide +kernel) :
    ∀ a ∈ args, ∀ w : Fin cfg1.W, Pipeline.arrRef spec1 w ≠ a) a ha)).trans (C2_args m c a ha)

/-! ## The program as segments -/

/-- Both launches' proof data, each at the contents it finds. -/
def data : (p : Fin 2) → (c : Dev nD) → Dat τ (Elt F) Unit ℕ (UR sig nD τ) ℕ (Pipeline.pin (pcfgs (F := F)) adm p) c
  | ⟨0, _⟩ => fun c => X2h.dat (V1 m) c
  | ⟨1, _⟩ => fun c => Scan.dat (V2 m) c

/-- No core owes another anything. -/
abbrev noLevels : GSem nD τ sig → Finset Unit := fun _ => ∅
abbrev noLevel : GSem nD τ sig → Unit → ℕ := fun _ _ => 0

/-- What is carried beside the buffers: the generator register at some state, and nothing owed. -/
abbrev beside (c : Dev nD) : sProp 𝕄 := iprop((∃ r, prngReg c r) ∗ ∃ W, owes (c : Thread nD τ) (0 : CellTallies nD τ sig Unit) W)

/-- The host stretch as a segment. -/
abbrev hostSeg : Pipeline.HostSeg (Name := ℕ) (U := UR sig nD τ) (pcfgs (F := F)) defs₀ Variants.none noLevels noLevel :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (C0 m) beside

/-- The buffers a core keeps throughout. -/
theorem mem_kept (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The state at the end, beside nothing owed. -/
abbrev atEnd (c : Dev nD) : sProp 𝕄 := iprop(StableHlo.held (c : Thread nD τ) (Pipeline.ucRefs τ sig) (C3 m c) ∗ ∃ r, prngReg c r)

set_option backward.isDefEq.respectTransparency.types false in
/-- The projection's launch as a segment, from the contents `C1` to the contents `C2`. -/
def x2hSeg : Pipeline.RegionSeg (pcfgs (F := F)) adm (data m) () defs₀ Variants.none noLevels noLevel 0 where
  win := launch0.win.to₀
  block_pos := launch0.block_pos
  stage_whole := launch0.stage_whole
  K := PEmpty
  osem k := k.elim
  ho := Pipeline.OwnSemFacts.none _
  hbody c := (X2h.obligation (V1 m) c).loose
  hwaits := Pipeline.hwaits_of_owed_zero _ _ _ _ noLevels noLevel 0 fun _ _ => rfl
  pre c := iprop(StableHlo.held (c : Thread nD τ) (Pipeline.ucRefs τ sig) (C1 m c) ∗ beside c)
  post c := iprop(StableHlo.held (c : Thread nD τ) (Pipeline.ucRefs τ sig) (C2 m c) ∗ beside c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have split := Pipeline.arrays_of_unscopedBufs (p := 0) (pcfgs (F := F)) adm (data m) launch0.win launch0.arr_whole c
      ((data m 0 c).share_full fun _ => rfl) (V1 m c) (X2h.dat_A (V1 m) c)
    rw [Pipeline.unscopedBufs_held] at split
    iintro ⟨⟨Hb, Hp, HO⟩, -, -⟩
    ihave H := split $$ Hb
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (data m 0 c).Φ 0 = Pipeline.ΦA spec0 c from rfl]; unfold Pipeline.ΦA
    iintro ⟨Hp, -, Hr⟩
    isplitl [Hr]; · iexact Hr
    iexact Hp
  hout c := by
    rw [Pipeline.ownSems0_none, show (data m 0 c).Φ (Fin.last _) = Pipeline.ΦA spec0 c from rfl]; unfold Pipeline.ΦA
    iintro ⟨Hr, Hp⟩
    isplitl [Hp]; · iexact Hp
    isplitr; · iempintro
    iexact Hr
  hexit c := by
    have join := Pipeline.unscopedBufs_of_arrays (p := 0) (pcfgs (F := F)) adm (Ix := Unit) (Name := ℕ) (U := UR sig nD τ) (Lvl := ℕ)
      launch0.win launch0.arr_whole c (data m) ((data m 0 c).share_full fun _ => rfl)
      (V1 m c) (V2 m c) ((data m 0 c).arrAt · cfg0.N) (fun w => (C2_arr m c w).symm)
      (fun b hb => C2_ne m c b fun w e => hb (Finset.mem_image.mpr ⟨w, Finset.mem_univ _, e⟩))
    rw [Pipeline.unscopedBufs_held] at join
    iintro ⟨Ha, HO, HY, Hrest⟩
    imodintro
    isplitl [Ha Hrest]
    · iapply join; isplitl [Ha] <;> iassumption
    isplitl [HY]; · iexact HY
    unfold Pipeline.Dat.owesAt Pipeline.owesWithin
    icases HO with ⟨%W, -, HO⟩; iexists W; iexact HO

set_option backward.isDefEq.respectTransparency.types false in
/-- The recurrence's launch as a segment, from the contents `C2` to the contents `C3`. -/
def scanSeg : Pipeline.RegionSeg (pcfgs (F := F)) adm (data m) () defs₀ Variants.none noLevels noLevel 1 where
  win := launch1.win.to₀
  block_pos := launch1.block_pos
  stage_whole := launch1.stage_whole
  K := PEmpty
  osem k := k.elim
  ho := Pipeline.OwnSemFacts.none _
  hbody c := (Scan.obligation (V2 m) c).loose
  hwaits := Pipeline.hwaits_of_owed_zero _ _ _ _ noLevels noLevel 1 fun _ _ => rfl
  pre c := iprop(StableHlo.held (c : Thread nD τ) (Pipeline.ucRefs τ sig) (C2 m c) ∗ beside c)
  post c := iprop(atEnd m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have split := Pipeline.arrays_of_unscopedBufs (p := 1) (pcfgs (F := F)) adm (data m) launch1.win launch1.arr_whole c
      ((data m 1 c).share_full fun _ => rfl) (V2 m c) (Scan.dat_A (V2 m) c)
    rw [Pipeline.unscopedBufs_held] at split
    iintro ⟨⟨Hb, Hp, HO⟩, -, -⟩
    ihave H := split $$ Hb
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have kept : (Pipeline.ΦA spec1 c : sProp 𝕄) ⊢ (data m 1 c).Φ 0 := Scan.inv_of_handed (V2 m) c
    unfold Pipeline.ΦA at kept
    iintro ⟨Hp, -, Hr⟩
    iapply kept
    isplitl [Hr]; · iexact Hr
    iexact Hp
  hout c := by
    have back : (data m 1 c).Φ (Fin.last _) ⊢ (Pipeline.ΦA spec1 c : sProp 𝕄) := Scan.handed_of_inv (V2 m) c (Fin.last _)
    unfold Pipeline.ΦA at back
    rw [Pipeline.ownSems0_none]
    iintro Hinv
    ihave H := back $$ Hinv
    icases H with ⟨Hr, Hp⟩
    isplitl [Hp]; · iexact Hp
    isplitr; · iempintro
    iexact Hr
  hexit c := by
    have join := Pipeline.unscopedBufs_of_arrays (p := 1) (pcfgs (F := F)) adm (Ix := Unit) (Name := ℕ) (U := UR sig nD τ) (Lvl := ℕ)
      launch1.win launch1.arr_whole c (data m) ((data m 1 c).share_full fun _ => rfl)
      (V2 m c) (V3 m c) ((data m 1 c).arrAt · cfg1.N) (fun w => (C3_arr m c w).symm)
      (fun b hb => C3_ne m c b fun w e => hb (Finset.mem_image.mpr ⟨w, Finset.mem_univ _, e⟩))
    rw [Pipeline.unscopedBufs_held] at join
    iintro ⟨Ha, HO, HY, Hrest⟩
    imodintro
    isplitl [Ha Hrest HY]
    · isplitl [Ha Hrest]
      · iapply join; isplitl [Ha] <;> iassumption
      iexact HY
    unfold Pipeline.Dat.owesAt Pipeline.owesWithin
    icases HO with ⟨%W, -, HO⟩; iexists W; iexact HO

/-- The program's three segments, in order. -/
abbrev segments : List (Pipeline.Seg (pcfgs (F := F)) adm (data m) () defs₀ Variants.none noLevels noLevel) :=
  [ .host (hostSeg m), .region (x2hSeg m), .region (scanSeg m) ]

/-- The program is the run of its segments. -/
theorem main_eq_run (c : Dev nD) : main (F := F) c = Pipeline.Seg.run (segments m) := (main_chain c).trans (by chain_rfl)

set_option backward.isDefEq.respectTransparency.types false in
/-- The run: from any memory with all semaphores at zero it ends, and then the result array is what the recurrence's
    launch writes back, the arguments are as at the start and every semaphore is at zero. -/
theorem run : θ_run defs (onTc (τ := τ) (main (F := F))) ⟨m, fun _ => 0, ρ⟩ (fun r => (∀ c : Dev nD,
      r.2.mem ((c.tc : Thread nD τ).loc main_v0) = (Scan.dat (V2 m) c).arrAt 4 cfg1.N
      ∧ ∀ a ∈ args, r.2.mem ((c.tc : Thread nD τ).loc a) = m ((c.tc : Thread nD τ).loc a))
      ∧ r.2.sem = fun _ => 0) :=
  Pipeline.θ_run_regions_kit_sems (pcfgs (F := F)) adm (data m) () cellOf_inj emb₁ defs₀ Variants.none noLevels noLevel m ρ main (segments m)
    (fun c Q => by rw [main_eq_run m c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (C0 m c) ∗ beside c)) (Tₙ := atEnd m)
    (hch := ⟨fun _ => .rfl, fun _ => .rfl, fun _ => .rfl, fun _ => .rfl⟩)
    (hinit := by
      refine Pipeline.initEach noLevels noLevel fun c => ?_
      rw [show unscopedBufs c (fun b => m ((c : Thread nD τ).loc b)) = StableHlo.held (c : Thread nD τ) (Pipeline.ucRefs τ sig) (C0 m c)
        from Pipeline.unscopedBufs_held c (C0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = C3 m c b)
    (hfin := fun c s' => by
      iintro ⟨⟨Hh, -⟩, HSI⟩
      unfold StableHlo.held
      imodintro
      iapply (pointsTo_read_all (Pipeline.ucRefs τ sig) (fun b => (((c : Thread nD τ)).1, b)) (C3 m c) s')
      isplitl [Hh] <;> iassumption)
    (hQ := fun s h hz => ⟨fun c => ⟨(h c _ (mem_kept main_v0 (by decide))).trans (C3_arr m c 4), fun a ha =>
        (h c _ (mem_kept a ((ListAll.forall_mem_of_all_decide (by decide +kernel) :
          ∀ a ∈ args, ¬ (Proc.devRef .tc a : DevRef τ sig).isScoped) a ha))).trans (C3_args m c a ha)⟩,
      funext fun g => hz g (.inr (regions_no_unscoped g.2))⟩)

end Cert.Proof.Launch

end
-- ==== Proof.Transport.lean ====
/- THE PROGRAM AS PRINTED AND ITS IDEALIZATION ARE THE SAME TEXT.

   No operation is rewritten, so whatever is proved of the idealized program for every choice of float values
   holds of the printed program at the machine's own values. -/
module

public import proofs.«01_k».proof.Proof.Gen.Kernel
public import proofs.«01_k».proof.Proof.Launch
public import Idealize.ShloMosaic.PureOps.BitExact

@[expose] public section

noncomputable section

namespace Cert.Proof

open Idealize.ShloMosaic Idealize.ShloMosaic.Tactic Idealize.SL.Sem

/-- The entry function is the same, -/
theorem main_eq : Cert.Kernel.main (F := Bits) = Cert.KernelIdeal.main (F := Bits) := rfl

/-- and so are the functions it calls. -/
theorem defs_eq : Cert.Kernel.defs (F := Bits) = Cert.KernelIdeal.defs (F := Bits) := by chain_rfl

/-- The printed program, from any memory with its counters at zero, ends with its arguments unchanged and every
    counter at zero. -/
theorem kernel_quiet (m : (ℓ : Loc Cert.Kernel.nD Cert.Kernel.τ Cert.Kernel.sig) → Buf (Elt Bits) ℓ)
    (g : Dev Cert.Kernel.nD → PrngReg) :
    θ_run (Cert.Kernel.defs (F := Bits)) (onTc (τ := Cert.Kernel.τ) (Cert.Kernel.main (F := Bits))) ⟨m, fun _ => 0, g⟩
      (fun r => (∀ c : Dev Cert.Kernel.nD, ∀ a ∈ Launch.args,
        r.2.mem ((c.tc : Thread Cert.Kernel.nD Cert.Kernel.τ).loc a) = m ((c.tc : Thread Cert.Kernel.nD Cert.Kernel.τ).loc a))
        ∧ r.2.sem = fun _ => 0) := by
  rw [main_eq, defs_eq]
  exact (θ_run _ _ _).mono (fun _ h => ⟨fun c => (h.1 c).2, h.2⟩) (Launch.run (F := Bits) m g)

end Cert.Proof

end
-- ==== Proof.Frames.lean ====
/- THE THREE FRAMES: each program runs, leaves its arguments unchanged and ends with every counter at zero. -/
module

public import proofs.«01_k».proof.Defs
public import proofs.«01_k».proof.Proof.Transport
public import proofs.«01_k».proof.Proof.Gen.Kernel
public import proofs.«01_k».proof.Proof.Gen.KernelIdeal
public import proofs.«01_k».proof.Proof.Gen.ReferenceIdeal.Run
public import Idealize.ShloMosaic.Lib.Quiescent

@[expose] public section

noncomputable section

namespace Cert.Proof

open Idealize.ShloMosaic Idealize.SL.Sem

/-- A property of every argument is one of each of the six. -/
theorem each_arg {P : Ref Cert.KernelIdeal.sig .tc → Prop} (h : ∀ a ∈ Launch.args, P a) :
    P Cert.KernelIdeal.main_arg0 ∧ P Cert.KernelIdeal.main_arg1 ∧ P Cert.KernelIdeal.main_arg2 ∧ P Cert.KernelIdeal.main_arg3
      ∧ P Cert.KernelIdeal.main_arg4 ∧ P Cert.KernelIdeal.main_arg5 :=
  ⟨h _ (by simp [Launch.args]), h _ (by simp [Launch.args]), h _ (by simp [Launch.args]), h _ (by simp [Launch.args]),
    h _ (by simp [Launch.args]), h _ (by simp [Launch.args])⟩

/-- The kernel as printed, at the machine's own float values. -/
theorem frame_kernel : quiescent_Kernel (hKernel := Cert.Kernel.Gen.facts) := fun m g _ =>
  (θ_run _ _ _).mono (fun r h => ⟨fun c => each_arg
    (P := fun a => r.2.mem ((c.tc : Thread Cert.Kernel.nD Cert.Kernel.τ).loc a) = m ((c.tc : Thread Cert.Kernel.nD Cert.Kernel.τ).loc a))
    (h.1 c), h.2⟩) (kernel_quiet m g)

/-- The idealized kernel. -/
theorem frame_ideal : quiescent_KernelIdeal (hKernelIdeal := Cert.KernelIdeal.Gen.facts) := fun m g _ =>
  (θ_run _ _ _).mono (fun r h => ⟨fun c => each_arg
    (P := fun a => r.2.mem ((c.tc : Thread Cert.KernelIdeal.nD Cert.KernelIdeal.τ).loc a) = m ((c.tc : Thread Cert.KernelIdeal.nD Cert.KernelIdeal.τ).loc a))
    (h.1 c).2, h.2⟩) (Launch.run (F := Ideal) m g)

/-- The reference, which has no counters at all. -/
theorem frame_reference : quiescent_ReferenceIdeal (hReferenceIdeal := Cert.ReferenceIdeal.Gen.facts) := fun m g _ =>
  (θ_run _ _ _).mono (fun _ h => ⟨fun c => (h c).2, sem_eq_zero_of_no_sems rfl _⟩) (Cert.ReferenceIdeal.Value.run m g)

end Cert.Proof

end
-- ==== Proof.HostValue.lean ====
/- WHAT THE LAUNCHES FIND: the operands the host stretch prepares, element by element.

   The host changes the weights' format (nothing, over the extended reals), transposes the recurrence's and
   the read-out's weights, and lays each bias out as one row. -/
module

public import proofs.«01_k».proof.Proof.Launch
public import Idealize.ShloMosaic.Lib.Pointwise
public import Idealize.ShloMosaic.Lib.StableHlo.ReadAt

@[expose] public section

set_option maxRecDepth 16384

noncomputable section

namespace Cert.Proof.Launch

open Cert.KernelIdeal Cert.KernelIdeal.Gen
open Idealize.ShloMosaic Idealize.ShloMosaic.TcCoe Idealize.ShloMosaic.StableHlo

variable (m : (ℓ : Loc nD τ sig) → Buf (Elt Ideal) ℓ)

/-- The argument arrays at the start, as plain arrays. -/
abbrev argX (c : Dev nD) : Vec Ideal S64x512x1024 .f32 := m ((c.tc : Thread nD τ).loc main_arg0)
abbrev argW (c : Dev nD) : Vec Ideal S2048x1024 .f32 := m ((c.tc : Thread nD τ).loc main_arg1)
abbrev argB (c : Dev nD) : Vec Ideal S2048 .f32 := m ((c.tc : Thread nD τ).loc main_arg2)
abbrev argU (c : Dev nD) : Vec Ideal S2048x2048 .f32 := m ((c.tc : Thread nD τ).loc main_arg3)
abbrev argWy (c : Dev nD) : Vec Ideal S1024x2048 .f32 := m ((c.tc : Thread nD τ).loc main_arg4)
abbrev argBy (c : Dev nD) : Vec Ideal S1024 .f32 := m ((c.tc : Thread nD τ).loc main_arg5)

/-- The projection's weights, as its launch finds them. -/
theorem found_W (c : Dev nD) (d : Fin 2048) (k : Fin 1024) :
    (V1 m c main_call0_v0 : Vec Ideal S2048x1024 .bf16) (ix2 d k) = argW m c (ix2 d k) := by
  after_reads_at

/-- The projection's bias. -/
theorem found_b (c : Dev nD) (d : Fin 2048) :
    (V1 m c main_call0_v5 : Vec Ideal S1x2048 .f32) (ix2 0 d) = argB m c (ix1 d) := by
  after_reads_at

/-- The recurrence's weights, transposed. -/
theorem found_U (c : Dev nD) (k d : Fin 2048) :
    (V1 m c main_call0_v2 : Vec Ideal S2048x2048 .bf16) (ix2 k d) = argU m c (ix2 d k) := by
  after_reads_at

/-- The read-out's weights, transposed. -/
theorem found_Wy (c : Dev nD) (k : Fin 2048) (o : Fin 1024) :
    (V1 m c main_call0_v4 : Vec Ideal S2048x1024 .bf16) (ix2 k o) = argWy m c (ix2 o k) := by
  after_reads_at

/-- The read-out's bias. -/
theorem found_by (c : Dev nD) (o : Fin 1024) :
    (V1 m c main_call0_v6 : Vec Ideal S1x1024 .f32) (ix2 0 o) = argBy m c (ix1 o) := by
  after_reads_at

end Cert.Proof.Launch

end
-- ==== Proof.IdealOps.lean ====
/- THE BODIES AT THE IDEAL VALUES, element by element.

   Over the extended reals the format changes disappear and each block product is a plain sum. Here are the
   three computations of the two launches' bodies, read at one element. -/
module

public import proofs.«01_k».proof.Proof.X2hRegion
public import proofs.«01_k».proof.Proof.ScanRegion
public import Idealize.ShloMosaic.Lib.Pointwise

@[expose] public section

set_option maxRecDepth 16384

noncomputable section

namespace Cert.Proof

open Cert.KernelIdeal Cert.KernelIdeal.Gen
open Idealize.ShloMosaic

/-- An element of the projection's block: one row of `x` times one row of the weights, plus the bias. -/
theorem xhBlock_apply (x : Vec Ideal S8x128x1024 .f32) (W : Vec Ideal S2048x1024 .bf16) (b : Vec Ideal S1x2048 .f32)
    (t : Fin 128) (n : Fin 8) (d : Fin 2048) :
    X2h.xhBlock x W b (ix3 t n d) = (∑ k : Fin 1024, x (ix3 n t k) * W (ix2 d k)) + b (ix2 0 d) := by
  pointwise [X2h.xhBlock, k0_pay1]

/-- An element of the state after one step. -/
theorem step_apply (W : Vec Ideal S2048x2048 .bf16) (h : FVec Ideal S64x2048 .f32) (x : Vec Ideal S1x64x2048 .bf16)
    (n : Fin 64) (d : Fin 2048) :
    Scan.step W h x (ix2 n d) = max (x (ix3 0 n d) + ∑ k : Fin 2048, h (ix2 n k) * W (ix2 k d)) 0 := by
  pointwise [Scan.step]

/-- An element of the state the recurrence starts from. -/
theorem zeroState_apply (n : Fin 64) (d : Fin 2048) : (Scan.zeroState : FVec Ideal S64x2048 .f32) (ix2 n d) = 0 := by
  pointwise [Scan.zeroState, k1_pay4]

/-- An element of the result read off a state. -/
theorem readout_apply (Wy : Vec Ideal S2048x1024 .bf16) (b : Vec Ideal S1x1024 .f32) (h : FVec Ideal S64x2048 .f32)
    (n : Fin 64) (o : Fin 1024) :
    Scan.readout Wy b h (ix2 n o) = (∑ k : Fin 2048, h (ix2 n k) * Wy (ix2 k o)) + b (ix2 0 o) := by
  pointwise [Scan.readout]

/-- An element of row `u` of a block of 16 rows. -/
theorem row_apply (X : Vec Ideal S16x64x2048 .bf16) (u : Fin 16) (n : Fin 64) (d : Fin 2048) :
    Scan.row X u.val (ix3 0 n d) = X (ix3 u n d) := by
  have h : u.val % 16 = u.val := Nat.mod_eq_of_lt u.isLt
  pointwise [Scan.row]
  simp only [h]

end Cert.Proof

end
-- ==== Proof.X2hValue.lean ====
/- WHAT THE FIRST LAUNCH LEAVES IN ITS OUTPUT ARRAY, element by element.

   Its 32 points tile the array [512, 64, 2048] by blocks of 128 steps and 8 batch rows, each point
   writing its own; so the array holds the projected sequence, read off the three operands as the launch finds them. -/
module

public import proofs.«01_k».proof.Proof.IdealOps
public import Idealize.ShloMosaic.Lib.Pipeline.ValueKit

@[expose] public section

set_option maxRecDepth 16384

noncomputable section

namespace Cert.Proof.X2h

open Cert.KernelIdeal Cert.KernelIdeal.Gen
open Idealize.ShloMosaic Idealize.ShloMosaic.TcCoe
open Idealize.ShloMosaic.Pipeline (Dat)

variable (V : (c : Dev nD) → (b : Ref sig .tc) → Buf (Elt Ideal) ((c : Thread nD τ).loc b))

/-- Which block each window has at each point: the grid is 8 batch blocks by 4 step blocks. -/
theorem indices : ∀ t : Fin cfg0.N, win0_0.index t = ![(grid0.coords t 0).val, (grid0.coords t 1).val, 0]
    ∧ win0_1.index t = ![0, 0] ∧ win0_2.index t = ![0, 0]
    ∧ win0_3.index t = ![(grid0.coords t 1).val, (grid0.coords t 0).val, 0] :=
  (by decide +kernel : ∀ t : Fin grid0.N, _)

/-- The block of `x` at a point, in the whole of `x`. -/
theorem blkAt_x (c : Dev nD) (t : Fin cfg0.N) (n : Fin 8) (s : Fin 128) (k : Fin 1024) (n' : Fin 64) (s' : Fin 512)
    (hn : n'.val = (grid0.coords t 0).val * 8 + n.val) (hs : s'.val = (grid0.coords t 1).val * 128 + s.val) :
    (blkAt V c 0 t : Vec Ideal S8x128x1024 .f32) (ix3 n s k) = (V c main_arg0 : Vec Ideal S64x512x1024 .f32) (ix3 n' s' k) := by
  blk_ext [blkAt, (indices t).1]

/-- The weights' block is the whole of the weights, -/
theorem blkAt_W (c : Dev nD) (t : Fin cfg0.N) (d : Fin 2048) (k : Fin 1024) :
    (blkAt V c 1 t : Vec Ideal S2048x1024 .bf16) (ix2 d k) = (V c main_call0_v0 : Vec Ideal S2048x1024 .bf16) (ix2 d k) := by
  blk_ext [blkAt, (indices t).2.1]

/-- and the bias's the whole of the bias. -/
theorem blkAt_b (c : Dev nD) (t : Fin cfg0.N) (d : Fin 2048) :
    (blkAt V c 2 t : Vec Ideal S1x2048 .f32) (ix2 0 d) = (V c main_call0_v5 : Vec Ideal S1x2048 .f32) (ix2 0 d) := by
  blk_ext [blkAt, (indices t).2.2.1]

/-- The projected sequence, as an array over the three operands. -/
def projected (x : Vec Ideal S64x512x1024 .f32) (W : Vec Ideal S2048x1024 .bf16) (b : Vec Ideal S1x2048 .f32) :
    Vec Ideal S512x64x2048 .bf16 := fun i =>
  (∑ k : Fin 1024, x (ix3 (i 1) (i 0) k) * W (ix2 (i 2) k)) + b (ix2 0 (i 2))

/-- One point's block is the projected sequence at its place in the array. -/
theorem block_eq (c : Dev nD) (t : Fin cfg0.N) (s : Fin 128) (n : Fin 8) (d : Fin 2048) (i : S512x64x2048.Idx)
    (hs : (i 0).val = (grid0.coords t 1).val * 128 + s.val) (hn : (i 1).val = (grid0.coords t 0).val * 8 + n.val) (hd : (i 2).val = d.val) :
    xhBlock (blkAt V c 0 t) (blkAt V c 1 t) (blkAt V c 2 t) (ix3 s n d)
      = projected (V c main_arg0) (V c main_call0_v0) (V c main_call0_v5) i := by
  have e : i 2 = d := Fin.ext hd
  rw [xhBlock_apply, blkAt_b, projected, e]
  refine congrArg (· + _) (Finset.sum_congr rfl fun k _ => ?_)
  rw [blkAt_W, blkAt_x V c t n s k (i 1) (i 0) hn hs]

/-- The output array after the launch is the projected sequence. -/
theorem arrAt_out (c : Dev nD) :
    (dat V c).arrAt 3 cfg0.N = projected (V c main_arg0) (V c main_call0_v0) (V c main_call0_v5) := by
  refine (dat V c).arrAt_eq_of_covers 3 _ (by decide +kernel) fun t hf y => ?_
  blk_simp
  rw [dat_after3]
  have e : y = ix3 (y 0) (y 1) (y 2) := eq_ix3 y
  rw [e]
  refine block_eq V c t (y 0) (y 1) (y 2) _ ?_ ?_ ?_ <;> blk_simp [(indices t).2.2.2]

end Cert.Proof.X2h

end
-- ==== Proof.Spec.lean ====
/- THE PLAIN MATHEMATICS both programs compute, over the extended reals.

   An Elman recurrence: the sequence `x` is projected, `p t = x t · Wₓᵀ + b`; the hidden state starts at zero and
   becomes `max (p t + h · Wₕᵀ) 0` at each of the 512 steps; the result is `h · Wᵧᵀ + bᵧ` of the last state. -/
module

public import proofs.«01_k».proof.KernelIdeal
public import Idealize.ShloMosaic.Lib.Pointwise

@[expose] public section

noncomputable section

namespace Cert.Proof.Spec

open Cert.KernelIdeal
open Idealize.ShloMosaic

/-- The projected sequence at step `t`, batch row `n`, hidden component `d`. -/
def proj (x : Vec Ideal S64x512x1024 .f32) (W : Vec Ideal S2048x1024 .f32) (b : Vec Ideal S2048 .f32)
    (t : Fin 512) (n : Fin 64) (d : Fin 2048) : EReal :=
  (∑ k : Fin 1024, x (ix3 n t k) * W (ix2 d k)) + b (ix1 d)

/-- The hidden state before step `t` of the recurrence driven by the projected sequence `p`. -/
def state (p : Fin 512 → Fin 64 → Fin 2048 → EReal) (U : Vec Ideal S2048x2048 .f32) : ℕ → Fin 64 → Fin 2048 → EReal
  | 0 => fun _ _ => 0
  | t + 1 => fun n d => max (p (Fin.ofNat 512 t) n d + ∑ k : Fin 2048, state p U t n k * U (ix2 d k)) 0

/-- The result read off a hidden state. -/
def result (h : Fin 64 → Fin 2048 → EReal) (Wy : Vec Ideal S1024x2048 .f32) (by' : Vec Ideal S1024 .f32)
    (n : Fin 64) (o : Fin 1024) : EReal :=
  (∑ k : Fin 2048, h n k * Wy (ix2 o k)) + by' (ix1 o)

theorem state_zero (p : Fin 512 → Fin 64 → Fin 2048 → EReal) (U : Vec Ideal S2048x2048 .f32) (n : Fin 64) (d : Fin 2048) :
    state p U 0 n d = 0 := rfl

theorem state_succ (p : Fin 512 → Fin 64 → Fin 2048 → EReal) (U : Vec Ideal S2048x2048 .f32) (t : ℕ) (n : Fin 64) (d : Fin 2048) :
    state p U (t + 1) n d = max (p (Fin.ofNat 512 t) n d + ∑ k : Fin 2048, state p U t n k * U (ix2 d k)) 0 := rfl

end Cert.Proof.Spec

end
-- ==== Proof.ScanValue.lean ====
/- WHAT THE SECOND LAUNCH LEAVES IN THE RESULT, element by element.

   The state before point `n` is the recurrence's state before step `16 n`, and the last point, which sees the state after
   step 512, writes the whole result. All over the operands as the launch finds them. -/
module

public import proofs.«01_k».proof.Proof.IdealOps
public import proofs.«01_k».proof.Proof.Spec
public import Idealize.ShloMosaic.Lib.Pipeline.ValueKit

@[expose] public section

set_option maxRecDepth 16384

noncomputable section

namespace Cert.Proof.Scan

open Cert.KernelIdeal Cert.KernelIdeal.Gen
open Idealize.ShloMosaic Idealize.ShloMosaic.TcCoe
open Idealize.ShloMosaic.Pipeline (Dat)

/-! ## One block of 16 steps -/

/-- Steps through a block that holds the recurrence's inputs from step `T` on, begun at its state before step `T`, go
    through its states. -/
theorem steps_eq (p : Fin 512 → Fin 64 → Fin 2048 → EReal) (U : Vec Ideal S2048x2048 .f32) (T : ℕ)
    (W : Vec Ideal S2048x2048 .bf16) (X : Vec Ideal S16x64x2048 .bf16) (h : FVec Ideal S64x2048 .f32)
    (hW : ∀ k d, W (ix2 k d) = U (ix2 d k)) (hX : ∀ (u : Fin 16) n d, X (ix3 u n d) = p (Fin.ofNat 512 (T + u.val)) n d)
    (hh : ∀ n d, h (ix2 n d) = Spec.state p U T n d) :
    ∀ j : ℕ, j ≤ 16 → ∀ n d, steps W X h j (ix2 n d) = Spec.state p U (T + j) n d
  | 0, _, n, d => hh n d
  | j + 1, hj, n, d => by
    rw [steps, step_apply, row_apply X ⟨j, hj⟩, hX, ← Nat.add_assoc, Spec.state_succ]
    refine congrArg (max · 0) (congrArg (_ + ·) (Finset.sum_congr rfl fun k _ => ?_))
    rw [hW, steps_eq p U T W X h hW hX hh j (by omega)]

/-! ## The blocks in their arrays -/

variable (V : (c : Dev nD) → (b : Ref sig .tc) → Buf (Elt Ideal) ((c : Thread nD τ).loc b))

/-- Which block each window has at each point. -/
theorem indices : ∀ t : Fin cfg1.N, win1_0.index t = ![t.val, 0, 0] ∧ win1_1.index t = ![0, 0] ∧ win1_2.index t = ![0, 0]
    ∧ win1_3.index t = ![0, 0] ∧ win1_4.index t = ![0, 0] :=
  (by decide +kernel : ∀ t : Fin grid1.N, _)

/-- The block of the projected sequence at point `t` is its rows from `16 t` on. -/
theorem blkAt_xh (c : Dev nD) (t : Fin cfg1.N) (u : Fin 16) (n : Fin 64) (d : Fin 2048) (s : Fin 512) (hs : s.val = t.val * 16 + u.val) :
    (blkAt V c 0 t : Vec Ideal S16x64x2048 .bf16) (ix3 u n d) = (V c main_call0_v7 : Vec Ideal S512x64x2048 .bf16) (ix3 s n d) := by
  blk_ext [blkAt, (indices t).1]

/-- The recurrence's weights' block is the whole of them, -/
theorem blkAt_W (c : Dev nD) (t : Fin cfg1.N) (k d : Fin 2048) :
    (blkAt V c 1 t : Vec Ideal S2048x2048 .bf16) (ix2 k d) = (V c main_call0_v2 : Vec Ideal S2048x2048 .bf16) (ix2 k d) := by
  blk_ext [blkAt, (indices t).2.1]

/-- so is the read-out's weights', -/
theorem blkAt_Wy (c : Dev nD) (t : Fin cfg1.N) (k : Fin 2048) (o : Fin 1024) :
    (blkAt V c 2 t : Vec Ideal S2048x1024 .bf16) (ix2 k o) = (V c main_call0_v4 : Vec Ideal S2048x1024 .bf16) (ix2 k o) := by
  blk_ext [blkAt, (indices t).2.2.1]

/-- and the read-out's bias's. -/
theorem blkAt_b (c : Dev nD) (t : Fin cfg1.N) (o : Fin 1024) :
    (blkAt V c 3 t : Vec Ideal S1x1024 .f32) (ix2 0 o) = (V c main_call0_v6 : Vec Ideal S1x1024 .f32) (ix2 0 o) := by
  blk_ext [blkAt, (indices t).2.2.2.1]

/-! ## The state before each point, and the result -/

/-- The state before point `m` is the recurrence's before step `16 m`. -/
theorem hidden_eq (c : Dev nD) (p : Fin 512 → Fin 64 → Fin 2048 → EReal) (U : Vec Ideal S2048x2048 .f32)
    (hp : ∀ t n d, (V c main_call0_v7 : Vec Ideal S512x64x2048 .bf16) (ix3 t n d) = p t n d)
    (hU : ∀ k d, (V c main_call0_v2 : Vec Ideal S2048x2048 .bf16) (ix2 k d) = U (ix2 d k)) :
    ∀ m : ℕ, m ≤ cfg1.N → ∀ n d, hidden V c m (ix2 n d) = Spec.state p U (m * 16) n d
  | 0, _, n, d => zeroState_apply n d
  | m + 1, hm, n, d => by
    have hN : m < 32 := Nat.lt_of_lt_of_eq hm N_1
    rw [hidden_succ V c ⟨m, hm⟩, Nat.succ_mul]
    refine steps_eq p U (m * 16) _ _ _ (fun k d => (blkAt_W V c ⟨m, hm⟩ k d).trans (hU k d)) (fun u n d => ?_)
      (hidden_eq c p U hp hU m (Nat.le_of_succ_le hm)) 16 le_rfl n d
    refine (blkAt_xh V c ⟨m, hm⟩ u n d (Fin.ofNat 512 (m * 16 + u.val)) ?_).trans (hp _ n d)
    have := u.isLt
    exact Nat.mod_eq_of_lt (by omega)

/-- The last point. -/
def lastPoint : Fin cfg1.N := ⟨31, Nat.lt_of_lt_of_eq (by decide) N_1.symm⟩

/-- The result array after the launch: the read-out of the state after step 512. -/
theorem arrAt_out (c : Dev nD) (p : Fin 512 → Fin 64 → Fin 2048 → EReal) (U : Vec Ideal S2048x2048 .f32)
    (Wy : Vec Ideal S1024x2048 .f32) (by' : Vec Ideal S1024 .f32)
    (hp : ∀ t n d, (V c main_call0_v7 : Vec Ideal S512x64x2048 .bf16) (ix3 t n d) = p t n d)
    (hU : ∀ k d, (V c main_call0_v2 : Vec Ideal S2048x2048 .bf16) (ix2 k d) = U (ix2 d k))
    (hWy : ∀ k o, (V c main_call0_v4 : Vec Ideal S2048x1024 .bf16) (ix2 k o) = Wy (ix2 o k))
    (hb : ∀ o, (V c main_call0_v6 : Vec Ideal S1x1024 .f32) (ix2 0 o) = by' (ix1 o)) :
    (dat V c).arrAt 4 cfg1.N = fun i : S64x1024.Idx => Spec.result (Spec.state p U 512) Wy by' (i 0) (i 1) := by
  refine (dat V c).arrAt_eq_of_after_last 4 lastPoint (by decide +kernel) _ fun j => ?_
  blk_simp
  rw [dat_after4]
  obtain ⟨n, o, rfl⟩ : ∃ (n : Fin 64) (o : Fin 1024), j = ix2 n o := ⟨j 0, j 1, eq_ix2 j⟩
  have last : (lastPoint.val + 1) * 16 = 512 := rfl
  rw [readout_apply, blkAt_b, hb]
  refine congrArg (· + _) (Finset.sum_congr rfl fun k _ => ?_)
  rw [blkAt_Wy, hWy, hidden_eq V c p U hp hU (lastPoint.val + 1) lastPoint.isLt n k, last]
  rfl

end Cert.Proof.Scan

end
-- ==== Proof.KernelValue.lean ====
/- THE KERNEL'S RESULT over the extended reals: the recurrence of Spec, of the arguments at the start. -/
module

public import proofs.«01_k».proof.Proof.HostValue
public import proofs.«01_k».proof.Proof.X2hValue
public import proofs.«01_k».proof.Proof.ScanValue

@[expose] public section

set_option maxRecDepth 16384

noncomputable section

namespace Cert.Proof.Launch

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- A buffer that the projection's launch does not write is found by the recurrence's launch as the host left it. -/
theorem found_later (c : Dev nD) (r : Ref sig .tc) (h : ∀ w : Fin cfg0.W, Pipeline.arrRef spec0 w = r → (cfg0.win w).isOut = false) :
    V2 m c r = V1 m c r := C2_of m c r h

/-- The recurrence's launch finds the projected sequence. -/
theorem found_proj (c : Dev nD) (t : Fin 512) (n : Fin 64) (d : Fin 2048) :
    (V2 m c main_call0_v7 : Vec Ideal S512x64x2048 .bf16) (ix3 t n d) = Spec.proj (argX m c) (argW m c) (argB m c) t n d := by
  have e : V2 m c main_call0_v7 = X2h.projected (V1 m c main_arg0) (V1 m c main_call0_v0) (V1 m c main_call0_v5) :=
    (C2_arr m c 3).trans (X2h.arrAt_out (V1 m) c)
  have ex : V1 m c main_arg0 = argX m c := C1_args m c main_arg0 (by decide)
  rw [e, ex]
  refine congrArg₂ (· + ·) (Finset.sum_congr rfl fun k _ => congrArg (_ * ·) (found_W m c d k)) (found_b m c d)

/-- What the kernel's result array holds at the end. -/
def outcome (c : Dev nD) : Vec Ideal S64x1024 .f32 := fun i =>
  Spec.result (Spec.state (Spec.proj (argX m c) (argW m c) (argB m c)) (argU m c) 512) (argWy m c) (argBy m c) (i 0) (i 1)

/-- The recurrence's launch leaves it there. -/
theorem outcome_eq (c : Dev nD) : (Scan.dat (V2 m) c).arrAt 4 cfg1.N = outcome m c :=
  Scan.arrAt_out (V2 m) c _ (argU m c) (argWy m c) (argBy m c) (found_proj m c)
    (fun k d => by rw [found_later m c main_call0_v2 (by decide +kernel)]; exact found_U m c k d)
    (fun k o => by rw [found_later m c main_call0_v4 (by decide +kernel)]; exact found_Wy m c k o)
    (fun o => by rw [found_later m c main_call0_v6 (by decide +kernel)]; exact found_by m c o)

end Cert.Proof.Launch

end
-- ==== Proof.ReferenceValue.lean ====
/- WHAT THE REFERENCE COMPUTES over the extended reals, element by element: the recurrence of Spec.

   The reference projects the whole sequence, runs a loop of 512 trips that carries the step number and the hidden
   state, and reads the result off the last state. -/
module

public import proofs.«01_k».proof.Proof.Spec
public import proofs.«01_k».proof.Proof.Gen.ReferenceIdeal.Run
public import Idealize.ShloMosaic.Lib.DynamicIndex
public import Idealize.ShloMosaic.Lib.StableHlo.ReadAt

@[expose] public section

set_option maxRecDepth 16384

noncomputable section

namespace Cert.Proof.Reference

open Cert.ReferenceIdeal Cert.ReferenceIdeal.Gen Cert.ReferenceIdeal.Value
open Idealize.ShloMosaic Idealize.ShloMosaic.TcCoe Idealize.ShloMosaic.StableHlo

/-! ## One trip -/

/-- The hidden state after a trip, of the projected sequence, the weights, the step number and the state before it. -/
def next (P : Vec Ideal S512x64x2048 .f32) (U : Vec Ideal S2048x2048 .f32) (w : IVec S_ 32) (h : Vec Ideal S64x2048 .f32) :
    Vec Ideal S64x2048 .f32 :=
  maximumf
    (addf
      (shapeCast S64x2048 (Host.dynamicSlice S1x64x2048 P (fun k => ((![w, constantI S_ 32 0#32, constantI S_ 32 0#32] : Fin 3 → IVec S_ 32) k
        (Shape.Idx.first h_S_)).toInt) sliceFits_S512x64x2048_S1x64x2048) shapeCasts_S1x64x2048_S64x2048)
      (Host.dotGeneral (F := Ideal) (φ₁ := .f32) (φ₂ := .f32) dot_S64x2048_S2048x2048_S64x2048_1_0_0_1_n_n none h
        (transpose S2048x2048 [1, 0] U transposes_S2048x2048_S2048x2048_1_0)))
    (broadcastInDim S64x2048 ![] bcast_S_S64x2048 (constant S_ .f32 0x00000000#32))

/-- The slice of the projected sequence that a trip takes is its row at the step number. -/
theorem slice_eq (P : Vec Ideal S512x64x2048 .f32) (w : IVec S_ 32) (t : Fin 512) (hw : w = fun _ => BitVec.ofNat 32 t.val) :
    Host.dynamicSlice S1x64x2048 P (fun k => ((![w, constantI S_ 32 0#32, constantI S_ 32 0#32] : Fin 3 → IVec S_ 32) k
        (Shape.Idx.first h_S_)).toInt) sliceFits_S512x64x2048_S1x64x2048
      = fun i => P (ix3 t (i 1) (i 2)) := by
  subst hw
  have ht : (BitVec.ofNat 32 t.val).toInt = (t.val : Int) := toInt_ofNat_of_lt (by have := t.isLt; omega)
  have fits : S512x64x2048.Slices ![t.val, 0, 0] S1x64x2048 := ⟨rfl, fun a => by
    have := t.isLt
    fin_cases a
    · show t.val + 1 ≤ 512; omega
    · show 0 + 64 ≤ 64; omega
    · show 0 + 2048 ≤ 2048; omega⟩
  rw [Host.dynamicSlice_eq_extractStridedSlice S1x64x2048 P _ ![t.val, 0, 0] _ fits (fun a => by
    fin_cases a
    · exact ht
    · rfl
    · rfl)]
  funext i
  obtain ⟨i0, i1, i2, rfl⟩ : ∃ (i0 : Fin 1) (i1 : Fin 64) (i2 : Fin 2048), i = ix3 i0 i1 i2 := ⟨i 0, i 1, i 2, eq_ix3 i⟩
  pointwise

/-- An element of the state after a trip. -/
theorem next_apply (P : Vec Ideal S512x64x2048 .f32) (U : Vec Ideal S2048x2048 .f32) (w : IVec S_ 32) (h : Vec Ideal S64x2048 .f32)
    (t : Fin 512) (hw : w = fun _ => BitVec.ofNat 32 t.val) (n : Fin 64) (d : Fin 2048) :
    next P U w h (ix2 n d) = max (P (ix3 t n d) + ∑ k : Fin 2048, h (ix2 n k) * U (ix2 d k)) 0 := by
  rw [next, slice_eq P w t hw]
  pointwise

/-! ## The loop -/

section Loop
variable (E : Valuation τ sig (Elt Ideal))

/-- What a list of buffers holds, as plain arrays. -/
abbrev seq (V : Valuation τ sig (Elt Ideal)) : Vec Ideal S512x64x2048 .f32 := V (Proc.devRef .tc main_v6_0)
abbrev wts (V : Valuation τ sig (Elt Ideal)) : Vec Ideal S2048x2048 .f32 := V (Proc.devRef .tc main_v6_1)
abbrev ctr (V : Valuation τ sig (Elt Ideal)) : IVec S_ 32 := V (Proc.devRef .tc main_v6_2)
abbrev hid (V : Valuation τ sig (Elt Ideal)) : Vec Ideal S64x2048 .f32 := V (Proc.devRef .tc main_v6_3)

theorem hid_step (V : Valuation τ sig (Elt Ideal)) : hid (STEP V) = next (seq V) (wts V) (ctr V) (hid V) :=
  (STEP_main_v6_3 V).trans rfl

/-- The loop leaves the projected sequence and the weights alone, -/
theorem seq_iter (t : ℕ) : seq (STEP^[t] E) = seq E := by
  induction t with
  | zero => rfl
  | succ t ih => rw [Function.iterate_succ_apply', ← ih]; exact STEP_main_v6_0 _

theorem wts_iter (t : ℕ) : wts (STEP^[t] E) = wts E := by
  induction t with
  | zero => rfl
  | succ t ih => rw [Function.iterate_succ_apply', ← ih]; exact STEP_main_v6_1 _

/-- counts its trips, -/
theorem ctr_iter (h0 : ctr E = fun _ => 0#32) (t : ℕ) : ctr (STEP^[t] E) = fun _ => BitVec.ofNat 32 t := by
  induction t with
  | zero => exact h0
  | succ t ih =>
    rw [Function.iterate_succ_apply']
    refine (STEP_main_v6_2 _).trans ?_
    funext i
    show ctr (STEP^[t] E) i + 1#32 = _
    rw [ih, BitVec.ofNat_add]

/-- and takes the state through the recurrence's states. -/
theorem hid_iter (h0 : ctr E = fun _ => 0#32) (p : Fin 512 → Fin 64 → Fin 2048 → EReal) (U : Vec Ideal S2048x2048 .f32)
    (hp : ∀ t n d, seq E (ix3 t n d) = p t n d) (hU : wts E = U) (hz : ∀ n d, hid E (ix2 n d) = 0) :
    ∀ t : ℕ, t ≤ 512 → ∀ n d, hid (STEP^[t] E) (ix2 n d) = Spec.state p U t n d
  | 0, _, n, d => hz n d
  | t + 1, ht, n, d => by
    have hm : t = (Fin.ofNat 512 t).val := (Nat.mod_eq_of_lt ht).symm
    rw [Function.iterate_succ_apply', hid_step, seq_iter, wts_iter, hU,
      next_apply _ _ _ _ (Fin.ofNat 512 t) ((ctr_iter E h0 t).trans (by rw [← hm])), hp, Spec.state_succ]
    refine congrArg (max · 0) (congrArg (_ + ·) (Finset.sum_congr rfl fun k _ => ?_))
    rw [hid_iter h0 p U hp hU hz t (by omega)]

end Loop

/-! ## Before and after the loop -/

variable (m : (ℓ : Loc nD τ sig) → Buf (Elt Ideal) ℓ)

/-- What the loop starts from. -/
abbrev entry (c : Dev nD) : Valuation τ sig (Elt Ideal) := entryContents preI m c

/-- The argument arrays at the start, as plain arrays. -/
abbrev argX (c : Dev nD) : Vec Ideal S64x512x1024 .f32 := m ((c.tc : Thread nD τ).loc main_arg0)
abbrev argW (c : Dev nD) : Vec Ideal S2048x1024 .f32 := m ((c.tc : Thread nD τ).loc main_arg1)
abbrev argB (c : Dev nD) : Vec Ideal S2048 .f32 := m ((c.tc : Thread nD τ).loc main_arg2)
abbrev argU (c : Dev nD) : Vec Ideal S2048x2048 .f32 := m ((c.tc : Thread nD τ).loc main_arg3)
abbrev argWy (c : Dev nD) : Vec Ideal S1024x2048 .f32 := m ((c.tc : Thread nD τ).loc main_arg4)
abbrev argBy (c : Dev nD) : Vec Ideal S1024 .f32 := m ((c.tc : Thread nD τ).loc main_arg5)

/-- The projection the reference makes before the loop, step number first, -/
def projected (x : Vec Ideal S64x512x1024 .f32) (W : Vec Ideal S2048x1024 .f32) (b : Vec Ideal S2048 .f32) : Vec Ideal S512x64x2048 .f32 :=
  transpose S512x64x2048 [1, 0, 2]
    (addf (Host.dotGeneral (F := Ideal) (φ₁ := .f32) (φ₂ := .f32) dot_S64x512x1024_S2048x1024_S64x512x2048_2_1_01_0_n_n none x W)
      (broadcastInDim S64x512x2048 ![0, 1, 2] bcast_S1x1x2048_S64x512x2048_0_1_2 (broadcastInDim S1x1x2048 ![2] bcast_S2048_S1x1x2048_2 b)))
    transposes_S64x512x2048_S512x64x2048_1_0_2

/-- and an element of it. -/
theorem projected_apply (x : Vec Ideal S64x512x1024 .f32) (W : Vec Ideal S2048x1024 .f32) (b : Vec Ideal S2048 .f32)
    (t : Fin 512) (n : Fin 64) (d : Fin 2048) : projected x W b (ix3 t n d) = Spec.proj x W b t n d := by
  pointwise [projected, Spec.proj]

/-- The loop starts from the projected sequence, -/
theorem seq_entry (c : Dev nD) (t : Fin 512) (n : Fin 64) (d : Fin 2048) :
    seq (entry m c) (ix3 t n d) = Spec.proj (argX m c) (argW m c) (argB m c) t n d := by
  refine Eq.trans ?_ (projected_apply _ _ _ t n d)
  simp only [seq, entry, entryContents, afterL_cons, afterL_nil]
  after_reads_at
  exact rfl

/-- the recurrence's weights, -/
theorem wts_entry (c : Dev nD) : wts (entry m c) = argU m c := by
  funext i
  simp only [wts, entry, entryContents, afterL_cons, afterL_nil]
  after_reads_at
  exact rfl

/-- a zero count -/
theorem ctr_entry (c : Dev nD) : ctr (entry m c) = fun _ => 0#32 := Value.ctr_entry m c

/-- An element of the state the loop starts from. -/
theorem zeros_apply (n : Fin 64) (d : Fin 2048) :
    (broadcastInDim S64x2048 ![] bcast_S_S64x2048 (constant (F := Ideal) S_ .f32 0x00000000#32) : FVec Ideal S64x2048 .f32) (ix2 n d) = 0 := by
  pointwise

/-- and a zero state. -/
theorem hid_entry (c : Dev nD) (n : Fin 64) (d : Fin 2048) : hid (entry m c) (ix2 n d) = 0 := by
  simp only [hid, entry, entryContents, afterL_cons, afterL_nil]
  after_reads_at
  exact zeros_apply n d

/-- The result as the reference reads it off a state, -/
def readout (h : Vec Ideal S64x2048 .f32) (Wy : Vec Ideal S1024x2048 .f32) (b : Vec Ideal S1024 .f32) : Vec Ideal S64x1024 .f32 :=
  addf (Host.dotGeneral (F := Ideal) (φ₁ := .f32) (φ₂ := .f32) dot_S64x2048_S2048x1024_S64x1024_1_0_0_1_n_n none h
      (transpose S2048x1024 [1, 0] Wy transposes_S1024x2048_S2048x1024_1_0))
    (broadcastInDim S64x1024 ![0, 1] bcast_S1x1024_S64x1024_0_1 (broadcastInDim S1x1024 ![1] bcast_S1024_S1x1024_1 b))

/-- and an element of it. -/
theorem readout_apply (h : Vec Ideal S64x2048 .f32) (Wy : Vec Ideal S1024x2048 .f32) (b : Vec Ideal S1024 .f32)
    (n : Fin 64) (o : Fin 1024) :
    readout h Wy b (ix2 n o) = (∑ k : Fin 2048, h (ix2 n k) * Wy (ix2 o k)) + b (ix1 o) := by
  pointwise [readout]

/-- What the reference's result array holds at the end, -/
def outcome (c : Dev nD) : Vec Ideal S64x1024 .f32 := fun i =>
  Spec.result (Spec.state (Spec.proj (argX m c) (argW m c) (argB m c)) (argU m c) 512) (argWy m c) (argBy m c) (i 0) (i 1)

/-- read off the state after any number of trips, -/
theorem out_iter (c : Dev nD) (t : ℕ) (ht : t ≤ 512) :
    (out_main_v11 (STEP^[t] (entry m c)) : Vec Ideal S64x1024 .f32) = fun i =>
      Spec.result (Spec.state (Spec.proj (argX m c) (argW m c) (argB m c)) (argU m c) t) (argWy m c) (argBy m c) (i 0) (i 1) := by
  funext i
  obtain ⟨n, o, rfl⟩ : ∃ (n : Fin 64) (o : Fin 1024), i = ix2 n o := ⟨i 0, i 1, eq_ix2 i⟩
  have e : (out_main_v11 (STEP^[t] (entry m c)) : Vec Ideal S64x1024 .f32) = readout (hid (STEP^[t] (entry m c))) (argWy m c) (argBy m c) := by
    unfold out_main_v11
    rw [iter_main_arg4 m c t, iter_main_arg5 m c t]
    rfl
  rw [e, readout_apply]
  refine congrArg (· + _) (Finset.sum_congr rfl fun k _ => congrArg (· * _) ?_)
  exact hid_iter _ (ctr_entry m c) _ _ (seq_entry m c) (wts_entry m c) (hid_entry m c) t ht n k

/-- and after all of them. -/
theorem outcome_eq (c : Dev nD) : (out_main_v11 (STEP^[512] (entryContents preI m c)) : Vec Ideal S64x1024 .f32) = outcome m c :=
  out_iter m c 512 le_rfl

end Cert.Proof.Reference

end
-- ==== Proof.Value.lean ====
/- THE VALUE CLAIM: over the extended reals the kernel and the reference end with equal results. -/
module

public import proofs.«01_k».proof.Proof.Frames
public import proofs.«01_k».proof.Proof.KernelValue
public import proofs.«01_k».proof.Proof.ReferenceValue

@[expose] public section

noncomputable section

namespace Cert.Proof

open Idealize.ShloMosaic Idealize.SL.Sem

/-- From equal arguments both programs compute the same outcome. -/
theorem outcome_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hX : Reference.argX m' c = Launch.argX m c) (hW : Reference.argW m' c = Launch.argW m c)
    (hB : Reference.argB m' c = Launch.argB m c) (hU : Reference.argU m' c = Launch.argU m c)
    (hWy : Reference.argWy m' c = Launch.argWy m c) (hBy : Reference.argBy m' c = Launch.argBy m c) :
    Reference.outcome m' c = Launch.outcome m c := by
  unfold Reference.outcome Launch.outcome
  rw [hX, hW, hB, hU, hWy, hBy]

/-- The kernel's result and the reference's are the same array. -/
theorem value : algebraic_KernelIdeal_ReferenceIdeal (hKernelIdeal := Cert.KernelIdeal.Gen.facts)
    (hReferenceIdeal := Cert.ReferenceIdeal.Gen.facts) := fun m g m' g' _ same =>
  ⟨Launch.outcome m,
    (θ_run _ _ _).mono (fun r h c => ⟨((h.1 c).1).trans (Launch.outcome_eq m c), each_arg
      (P := fun a => r.2.mem ((c.tc : Thread Cert.KernelIdeal.nD Cert.KernelIdeal.τ).loc a) = m ((c.tc : Thread Cert.KernelIdeal.nD Cert.KernelIdeal.τ).loc a))
      (h.1 c).2⟩) (Launch.run (F := Ideal) m g),
    (θ_run _ _ _).mono (fun _ h c => ⟨(h c).1.trans ((Reference.outcome_eq m' c).trans
      (outcome_agree m m' c (same c).1 (same c).2.1 (same c).2.2.1 (same c).2.2.2.1 (same c).2.2.2.2.1 (same c).2.2.2.2.2)), (h c).2⟩)
      (Cert.ReferenceIdeal.Value.run m' g')⟩

end Cert.Proof

end
-- ==== Proof.lean ====
module

public import proofs.«01_k».proof.Defs
public import proofs.«01_k».proof.Proof.Frames
public import proofs.«01_k».proof.Proof.Value
public import proofs.«01_k».proof.Proof.Gen.Kernel
public import proofs.«01_k».proof.Proof.Gen.KernelIdeal
public import proofs.«01_k».proof.Proof.Gen.ReferenceIdeal

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts,
    frame_kernel, frame_ideal, frame_reference, trivial, value⟩

end Cert.Proof

end
